-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_repeated [hPre_gates_repeated : Cert.Pre_gates_repeated.Facts] (m : (ℓ : Loc Cert.KernelIdeal.nD Cert.KernelIdeal.τ Cert.KernelIdeal.sig) → Buf (Elt Ideal) ℓ) : Prop :=
  ∀ c : Dev Cert.KernelIdeal.nD,
    (Cert.Pre_gates_repeated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_gates_repeated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_gates_repeated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_gates_repeated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_repeated [hPre_gates_repeated : Cert.Pre_gates_repeated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_repeated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_gates_repeated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_gates_repeated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_gates_repeated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MlpMid (m : (ℓ : Loc Cert.MlpMid.nD Cert.MlpMid.τ Cert.MlpMid.sig) → Buf (Elt Bits) ℓ) : Prop :=
  True

def Pre_MlpMidIdeal (m : (ℓ : Loc Cert.MlpMidIdeal.nD Cert.MlpMidIdeal.τ Cert.MlpMidIdeal.sig) → Buf (Elt Ideal) ℓ) : Prop :=
  True

def Pre_MlpMidReferenceIdeal (m : (ℓ : Loc Cert.MlpMidReferenceIdeal.nD Cert.MlpMidReferenceIdeal.τ Cert.MlpMidReferenceIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_Fcum (m : (ℓ : Loc Cert.Fcum.nD Cert.Fcum.τ Cert.Fcum.sig) → Buf (Elt Bits) ℓ) : Prop :=
  True

def Pre_FcumIdeal (m : (ℓ : Loc Cert.FcumIdeal.nD Cert.FcumIdeal.τ Cert.FcumIdeal.sig) → Buf (Elt Ideal) ℓ) : Prop :=
  True

def Pre_FcumReferenceIdeal (m : (ℓ : Loc Cert.FcumReferenceIdeal.nD Cert.FcumReferenceIdeal.τ Cert.FcumReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gates_repeated [hKernelIdeal : Cert.KernelIdeal.Facts] [hPre_gates_repeated : Cert.Pre_gates_repeated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_repeated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gates_repeated [hReferenceIdeal : Cert.ReferenceIdeal.Facts] [hPre_gates_repeated : Cert.Pre_gates_repeated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_repeated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_MlpMid [hMlpMid : Cert.MlpMid.Facts] : Prop :=
  ∀ (m : (ℓ : Loc Cert.MlpMid.nD Cert.MlpMid.τ Cert.MlpMid.sig) → Buf (Elt Bits) ℓ) (g : Dev Cert.MlpMid.nD → PrngReg), Pre_MlpMid m →
    θ_run (Cert.MlpMid.defs (F := Bits)) (onTc (τ := Cert.MlpMid.τ) (Cert.MlpMid.main (F := Bits))) ⟨m, fun _ => 0, g⟩ (fun r => (∀ c : Dev Cert.MlpMid.nD,
      r.2.mem ((c.tc : Thread Cert.MlpMid.nD Cert.MlpMid.τ).loc Cert.MlpMid.main_arg0) = m ((c.tc : Thread Cert.MlpMid.nD Cert.MlpMid.τ).loc Cert.MlpMid.main_arg0)
      ∧ r.2.mem ((c.tc : Thread Cert.MlpMid.nD Cert.MlpMid.τ).loc Cert.MlpMid.main_arg1) = m ((c.tc : Thread Cert.MlpMid.nD Cert.MlpMid.τ).loc Cert.MlpMid.main_arg1)
      ∧ r.2.mem ((c.tc : Thread Cert.MlpMid.nD Cert.MlpMid.τ).loc Cert.MlpMid.main_arg2) = m ((c.tc : Thread Cert.MlpMid.nD Cert.MlpMid.τ).loc Cert.MlpMid.main_arg2)
      ∧ r.2.mem ((c.tc : Thread Cert.MlpMid.nD Cert.MlpMid.τ).loc Cert.MlpMid.main_arg3) = m ((c.tc : Thread Cert.MlpMid.nD Cert.MlpMid.τ).loc Cert.MlpMid.main_arg3)
      ∧ r.2.mem ((c.tc : Thread Cert.MlpMid.nD Cert.MlpMid.τ).loc Cert.MlpMid.main_arg4) = m ((c.tc : Thread Cert.MlpMid.nD Cert.MlpMid.τ).loc Cert.MlpMid.main_arg4))
      ∧ r.2.sem = fun _ => 0)

def quiescent_MlpMidIdeal [hMlpMidIdeal : Cert.MlpMidIdeal.Facts] : Prop :=
  ∀ (m : (ℓ : Loc Cert.MlpMidIdeal.nD Cert.MlpMidIdeal.τ Cert.MlpMidIdeal.sig) → Buf (Elt Ideal) ℓ) (g : Dev Cert.MlpMidIdeal.nD → PrngReg), Pre_MlpMidIdeal m →
    θ_run (Cert.MlpMidIdeal.defs (F := Ideal)) (onTc (τ := Cert.MlpMidIdeal.τ) (Cert.MlpMidIdeal.main (F := Ideal))) ⟨m, fun _ => 0, g⟩ (fun r => (∀ c : Dev Cert.MlpMidIdeal.nD,
      r.2.mem ((c.tc : Thread Cert.MlpMidIdeal.nD Cert.MlpMidIdeal.τ).loc Cert.MlpMidIdeal.main_arg0) = m ((c.tc : Thread Cert.MlpMidIdeal.nD Cert.MlpMidIdeal.τ).loc Cert.MlpMidIdeal.main_arg0)
      ∧ r.2.mem ((c.tc : Thread Cert.MlpMidIdeal.nD Cert.MlpMidIdeal.τ).loc Cert.MlpMidIdeal.main_arg1) = m ((c.tc : Thread Cert.MlpMidIdeal.nD Cert.MlpMidIdeal.τ).loc Cert.MlpMidIdeal.main_arg1)
      ∧ r.2.mem ((c.tc : Thread Cert.MlpMidIdeal.nD Cert.MlpMidIdeal.τ).loc Cert.MlpMidIdeal.main_arg2) = m ((c.tc : Thread Cert.MlpMidIdeal.nD Cert.MlpMidIdeal.τ).loc Cert.MlpMidIdeal.main_arg2)
      ∧ r.2.mem ((c.tc : Thread Cert.MlpMidIdeal.nD Cert.MlpMidIdeal.τ).loc Cert.MlpMidIdeal.main_arg3) = m ((c.tc : Thread Cert.MlpMidIdeal.nD Cert.MlpMidIdeal.τ).loc Cert.MlpMidIdeal.main_arg3)
      ∧ r.2.mem ((c.tc : Thread Cert.MlpMidIdeal.nD Cert.MlpMidIdeal.τ).loc Cert.MlpMidIdeal.main_arg4) = m ((c.tc : Thread Cert.MlpMidIdeal.nD Cert.MlpMidIdeal.τ).loc Cert.MlpMidIdeal.main_arg4))
      ∧ r.2.sem = fun _ => 0)

def quiescent_MlpMidReferenceIdeal [hMlpMidReferenceIdeal : Cert.MlpMidReferenceIdeal.Facts] : Prop :=
  ∀ (m : (ℓ : Loc Cert.MlpMidReferenceIdeal.nD Cert.MlpMidReferenceIdeal.τ Cert.MlpMidReferenceIdeal.sig) → Buf (Elt Ideal) ℓ) (g : Dev Cert.MlpMidReferenceIdeal.nD → PrngReg), Pre_MlpMidReferenceIdeal m →
    θ_run (Cert.MlpMidReferenceIdeal.defs (F := Ideal)) (onTc (τ := Cert.MlpMidReferenceIdeal.τ) (Cert.MlpMidReferenceIdeal.main (F := Ideal))) ⟨m, fun _ => 0, g⟩ (fun r => (∀ c : Dev Cert.MlpMidReferenceIdeal.nD,
      r.2.mem ((c.tc : Thread Cert.MlpMidReferenceIdeal.nD Cert.MlpMidReferenceIdeal.τ).loc Cert.MlpMidReferenceIdeal.main_arg0) = m ((c.tc : Thread Cert.MlpMidReferenceIdeal.nD Cert.MlpMidReferenceIdeal.τ).loc Cert.MlpMidReferenceIdeal.main_arg0)
      ∧ r.2.mem ((c.tc : Thread Cert.MlpMidReferenceIdeal.nD Cert.MlpMidReferenceIdeal.τ).loc Cert.MlpMidReferenceIdeal.main_arg1) = m ((c.tc : Thread Cert.MlpMidReferenceIdeal.nD Cert.MlpMidReferenceIdeal.τ).loc Cert.MlpMidReferenceIdeal.main_arg1)
      ∧ r.2.mem ((c.tc : Thread Cert.MlpMidReferenceIdeal.nD Cert.MlpMidReferenceIdeal.τ).loc Cert.MlpMidReferenceIdeal.main_arg2) = m ((c.tc : Thread Cert.MlpMidReferenceIdeal.nD Cert.MlpMidReferenceIdeal.τ).loc Cert.MlpMidReferenceIdeal.main_arg2)
      ∧ r.2.mem ((c.tc : Thread Cert.MlpMidReferenceIdeal.nD Cert.MlpMidReferenceIdeal.τ).loc Cert.MlpMidReferenceIdeal.main_arg3) = m ((c.tc : Thread Cert.MlpMidReferenceIdeal.nD Cert.MlpMidReferenceIdeal.τ).loc Cert.MlpMidReferenceIdeal.main_arg3)
      ∧ r.2.mem ((c.tc : Thread Cert.MlpMidReferenceIdeal.nD Cert.MlpMidReferenceIdeal.τ).loc Cert.MlpMidReferenceIdeal.main_arg4) = m ((c.tc : Thread Cert.MlpMidReferenceIdeal.nD Cert.MlpMidReferenceIdeal.τ).loc Cert.MlpMidReferenceIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3))
      ∧ r.2.sem = fun _ => 0)

def quiescent_Fcum [hFcum : Cert.Fcum.Facts] : Prop :=
  ∀ (m : (ℓ : Loc Cert.Fcum.nD Cert.Fcum.τ Cert.Fcum.sig) → Buf (Elt Bits) ℓ) (g : Dev Cert.Fcum.nD → PrngReg), Pre_Fcum m →
    θ_run (Cert.Fcum.defs (F := Bits)) (onTc (τ := Cert.Fcum.τ) (Cert.Fcum.main (F := Bits))) ⟨m, fun _ => 0, g⟩ (fun r => (∀ c : Dev Cert.Fcum.nD,
      r.2.mem ((c.tc : Thread Cert.Fcum.nD Cert.Fcum.τ).loc Cert.Fcum.main_arg0) = m ((c.tc : Thread Cert.Fcum.nD Cert.Fcum.τ).loc Cert.Fcum.main_arg0)
      ∧ r.2.mem ((c.tc : Thread Cert.Fcum.nD Cert.Fcum.τ).loc Cert.Fcum.main_arg1) = m ((c.tc : Thread Cert.Fcum.nD Cert.Fcum.τ).loc Cert.Fcum.main_arg1))
      ∧ r.2.sem = fun _ => 0)

def quiescent_FcumIdeal [hFcumIdeal : Cert.FcumIdeal.Facts] : Prop :=
  ∀ (m : (ℓ : Loc Cert.FcumIdeal.nD Cert.FcumIdeal.τ Cert.FcumIdeal.sig) → Buf (Elt Ideal) ℓ) (g : Dev Cert.FcumIdeal.nD → PrngReg), Pre_FcumIdeal m →
    θ_run (Cert.FcumIdeal.defs (F := Ideal)) (onTc (τ := Cert.FcumIdeal.τ) (Cert.FcumIdeal.main (F := Ideal))) ⟨m, fun _ => 0, g⟩ (fun r => (∀ c : Dev Cert.FcumIdeal.nD,
      r.2.mem ((c.tc : Thread Cert.FcumIdeal.nD Cert.FcumIdeal.τ).loc Cert.FcumIdeal.main_arg0) = m ((c.tc : Thread Cert.FcumIdeal.nD Cert.FcumIdeal.τ).loc Cert.FcumIdeal.main_arg0)
      ∧ r.2.mem ((c.tc : Thread Cert.FcumIdeal.nD Cert.FcumIdeal.τ).loc Cert.FcumIdeal.main_arg1) = m ((c.tc : Thread Cert.FcumIdeal.nD Cert.FcumIdeal.τ).loc Cert.FcumIdeal.main_arg1))
      ∧ r.2.sem = fun _ => 0)

def quiescent_FcumReferenceIdeal [hFcumReferenceIdeal : Cert.FcumReferenceIdeal.Facts] : Prop :=
  ∀ (m : (ℓ : Loc Cert.FcumReferenceIdeal.nD Cert.FcumReferenceIdeal.τ Cert.FcumReferenceIdeal.sig) → Buf (Elt Ideal) ℓ) (g : Dev Cert.FcumReferenceIdeal.nD → PrngReg), Pre_FcumReferenceIdeal m →
    θ_run (Cert.FcumReferenceIdeal.defs (F := Ideal)) (onTc (τ := Cert.FcumReferenceIdeal.τ) (Cert.FcumReferenceIdeal.main (F := Ideal))) ⟨m, fun _ => 0, g⟩ (fun r => (∀ c : Dev Cert.FcumReferenceIdeal.nD,
      r.2.mem ((c.tc : Thread Cert.FcumReferenceIdeal.nD Cert.FcumReferenceIdeal.τ).loc Cert.FcumReferenceIdeal.main_arg0) = m ((c.tc : Thread Cert.FcumReferenceIdeal.nD Cert.FcumReferenceIdeal.τ).loc Cert.FcumReferenceIdeal.main_arg0)
      ∧ r.2.mem ((c.tc : Thread Cert.FcumReferenceIdeal.nD Cert.FcumReferenceIdeal.τ).loc Cert.FcumReferenceIdeal.main_arg1) = m ((c.tc : Thread Cert.FcumReferenceIdeal.nD Cert.FcumReferenceIdeal.τ).loc Cert.FcumReferenceIdeal.main_arg1))
      ∧ r.2.sem = fun _ => 0)

def preserves_Kernel_KernelIdeal : Prop :=
  IdealRules.named_const.Statement Cert.KernelIdeal.κ "neg" .f32 0xFF7F0000#32 ⊥

def algebraic_KernelIdeal_ReferenceIdeal_pre_gates_repeated [hKernelIdeal : Cert.KernelIdeal.Facts] [hReferenceIdeal : Cert.ReferenceIdeal.Facts] [hPre_gates_repeated : Cert.Pre_gates_repeated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_repeated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v30) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)) (v2 : (c : Dev Cert.InProjIdeal.nD) → Buf (Elt Ideal) ((c.tc : Thread Cert.InProjIdeal.nD Cert.InProjIdeal.τ).loc Cert.InProjIdeal.main_v4_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_v4_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v13) = v0 c
          ∧ r.2.mem ((c.tc : Thread Cert.InProjReferenceIdeal.nD Cert.InProjReferenceIdeal.τ).loc Cert.InProjReferenceIdeal.main_v15) = v1 c
          ∧ r.2.mem ((c.tc : Thread Cert.InProjReferenceIdeal.nD Cert.InProjReferenceIdeal.τ).loc Cert.InProjReferenceIdeal.main_v16) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v17) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_MlpMid_MlpMidIdeal : Prop :=
  True

def algebraic_MlpMidIdeal_MlpMidReferenceIdeal [hMlpMidIdeal : Cert.MlpMidIdeal.Facts] [hMlpMidReferenceIdeal : Cert.MlpMidReferenceIdeal.Facts] : Prop :=
  ∀ (m : (ℓ : Loc Cert.MlpMidIdeal.nD Cert.MlpMidIdeal.τ Cert.MlpMidIdeal.sig) → Buf (Elt Ideal) ℓ) (g : Dev Cert.MlpMidIdeal.nD → PrngReg)
    (m' : (ℓ : Loc Cert.MlpMidReferenceIdeal.nD Cert.MlpMidReferenceIdeal.τ Cert.MlpMidReferenceIdeal.sig) → Buf (Elt Ideal) ℓ) (g' : Dev Cert.MlpMidReferenceIdeal.nD → PrngReg), Pre_MlpMidIdeal m →
    (∀ c : Dev Cert.MlpMidIdeal.nD,
      m' ((c.tc : Thread Cert.MlpMidReferenceIdeal.nD Cert.MlpMidReferenceIdeal.τ).loc Cert.MlpMidReferenceIdeal.main_arg0) = m ((c.tc : Thread Cert.MlpMidIdeal.nD Cert.MlpMidIdeal.τ).loc Cert.MlpMidIdeal.main_arg0)
      ∧ m' ((c.tc : Thread Cert.MlpMidReferenceIdeal.nD Cert.MlpMidReferenceIdeal.τ).loc Cert.MlpMidReferenceIdeal.main_arg1) = m ((c.tc : Thread Cert.MlpMidIdeal.nD Cert.MlpMidIdeal.τ).loc Cert.MlpMidIdeal.main_arg1)
      ∧ m' ((c.tc : Thread Cert.MlpMidReferenceIdeal.nD Cert.MlpMidReferenceIdeal.τ).loc Cert.MlpMidReferenceIdeal.main_arg2) = m ((c.tc : Thread Cert.MlpMidIdeal.nD Cert.MlpMidIdeal.τ).loc Cert.MlpMidIdeal.main_arg2)
      ∧ m' ((c.tc : Thread Cert.MlpMidReferenceIdeal.nD Cert.MlpMidReferenceIdeal.τ).loc Cert.MlpMidReferenceIdeal.main_arg3) = m ((c.tc : Thread Cert.MlpMidIdeal.nD Cert.MlpMidIdeal.τ).loc Cert.MlpMidIdeal.main_arg3)
      ∧ m' ((c.tc : Thread Cert.MlpMidReferenceIdeal.nD Cert.MlpMidReferenceIdeal.τ).loc Cert.MlpMidReferenceIdeal.main_arg4) = m ((c.tc : Thread Cert.MlpMidIdeal.nD Cert.MlpMidIdeal.τ).loc Cert.MlpMidIdeal.main_arg4)) →
    ∃ (v0 : (c : Dev Cert.MlpMidIdeal.nD) → Buf (Elt Ideal) ((c.tc : Thread Cert.MlpMidIdeal.nD Cert.MlpMidIdeal.τ).loc Cert.MlpMidIdeal.main_v4)),
      θ_run (Cert.MlpMidIdeal.defs (F := Ideal)) (onTc (τ := Cert.MlpMidIdeal.τ) (Cert.MlpMidIdeal.main (F := Ideal))) ⟨m, fun _ => 0, g⟩ (fun r => ∀ c : Dev Cert.MlpMidIdeal.nD,
          r.2.mem ((c.tc : Thread Cert.MlpMidIdeal.nD Cert.MlpMidIdeal.τ).loc Cert.MlpMidIdeal.main_v4) = v0 c
          ∧ r.2.mem ((c.tc : Thread Cert.MlpMidIdeal.nD Cert.MlpMidIdeal.τ).loc Cert.MlpMidIdeal.main_arg0) = m ((c.tc : Thread Cert.MlpMidIdeal.nD Cert.MlpMidIdeal.τ).loc Cert.MlpMidIdeal.main_arg0)
          ∧ r.2.mem ((c.tc : Thread Cert.MlpMidIdeal.nD Cert.MlpMidIdeal.τ).loc Cert.MlpMidIdeal.main_arg1) = m ((c.tc : Thread Cert.MlpMidIdeal.nD Cert.MlpMidIdeal.τ).loc Cert.MlpMidIdeal.main_arg1)
          ∧ r.2.mem ((c.tc : Thread Cert.MlpMidIdeal.nD Cert.MlpMidIdeal.τ).loc Cert.MlpMidIdeal.main_arg2) = m ((c.tc : Thread Cert.MlpMidIdeal.nD Cert.MlpMidIdeal.τ).loc Cert.MlpMidIdeal.main_arg2)
          ∧ r.2.mem ((c.tc : Thread Cert.MlpMidIdeal.nD Cert.MlpMidIdeal.τ).loc Cert.MlpMidIdeal.main_arg3) = m ((c.tc : Thread Cert.MlpMidIdeal.nD Cert.MlpMidIdeal.τ).loc Cert.MlpMidIdeal.main_arg3)
          ∧ r.2.mem ((c.tc : Thread Cert.MlpMidIdeal.nD Cert.MlpMidIdeal.τ).loc Cert.MlpMidIdeal.main_arg4) = m ((c.tc : Thread Cert.MlpMidIdeal.nD Cert.MlpMidIdeal.τ).loc Cert.MlpMidIdeal.main_arg4))
      ∧ θ_run (Cert.MlpMidReferenceIdeal.defs (F := Ideal)) (onTc (τ := Cert.MlpMidReferenceIdeal.τ) (Cert.MlpMidReferenceIdeal.main (F := Ideal))) ⟨m', fun _ => 0, g'⟩ (fun r => ∀ c : Dev Cert.MlpMidReferenceIdeal.nD,
          r.2.mem ((c.tc : Thread Cert.MlpMidReferenceIdeal.nD Cert.MlpMidReferenceIdeal.τ).loc Cert.MlpMidReferenceIdeal.main_v17) = v0 c
          ∧ r.2.mem ((c.tc : Thread Cert.MlpMidReferenceIdeal.nD Cert.MlpMidReferenceIdeal.τ).loc Cert.MlpMidReferenceIdeal.main_arg0) = m' ((c.tc : Thread Cert.MlpMidReferenceIdeal.nD Cert.MlpMidReferenceIdeal.τ).loc Cert.MlpMidReferenceIdeal.main_arg0)
          ∧ r.2.mem ((c.tc : Thread Cert.MlpMidReferenceIdeal.nD Cert.MlpMidReferenceIdeal.τ).loc Cert.MlpMidReferenceIdeal.main_arg1) = m' ((c.tc : Thread Cert.MlpMidReferenceIdeal.nD Cert.MlpMidReferenceIdeal.τ).loc Cert.MlpMidReferenceIdeal.main_arg1)
          ∧ r.2.mem ((c.tc : Thread Cert.MlpMidReferenceIdeal.nD Cert.MlpMidReferenceIdeal.τ).loc Cert.MlpMidReferenceIdeal.main_arg2) = m' ((c.tc : Thread Cert.MlpMidReferenceIdeal.nD Cert.MlpMidReferenceIdeal.τ).loc Cert.MlpMidReferenceIdeal.main_arg2)
          ∧ r.2.mem ((c.tc : Thread Cert.MlpMidReferenceIdeal.nD Cert.MlpMidReferenceIdeal.τ).loc Cert.MlpMidReferenceIdeal.main_arg3) = m' ((c.tc : Thread Cert.MlpMidReferenceIdeal.nD Cert.MlpMidReferenceIdeal.τ).loc Cert.MlpMidReferenceIdeal.main_arg3)
          ∧ r.2.mem ((c.tc : Thread Cert.MlpMidReferenceIdeal.nD Cert.MlpMidReferenceIdeal.τ).loc Cert.MlpMidReferenceIdeal.main_arg4) = m' ((c.tc : Thread Cert.MlpMidReferenceIdeal.nD Cert.MlpMidReferenceIdeal.τ).loc Cert.MlpMidReferenceIdeal.main_arg4))

def preserves_Sgu_SguIdeal : Prop :=
  True

def algebraic_SguIdeal_SguReferenceIdeal [hSguIdeal : Cert.SguIdeal.Facts] [hSguReferenceIdeal : Cert.SguReferenceIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguIdeal m →
    (∀ c : Dev Cert.SguIdeal.nD,
      m' ((c.tc : Thread Cert.SguReferenceIdeal.nD Cert.SguReferenceIdeal.τ).loc Cert.SguReferenceIdeal.main_arg0) = m ((c.tc : Thread Cert.SguIdeal.nD Cert.SguIdeal.τ).loc Cert.SguIdeal.main_arg0)
      ∧ m' ((c.tc : Thread Cert.SguReferenceIdeal.nD Cert.SguReferenceIdeal.τ).loc Cert.SguReferenceIdeal.main_arg1) = m ((c.tc : Thread Cert.SguIdeal.nD Cert.SguIdeal.τ).loc Cert.SguIdeal.main_arg1)
      ∧ m' ((c.tc : Thread Cert.SguReferenceIdeal.nD Cert.SguReferenceIdeal.τ).loc Cert.SguReferenceIdeal.main_arg2) = m ((c.tc : Thread Cert.SguIdeal.nD Cert.SguIdeal.τ).loc Cert.SguIdeal.main_arg2)
      ∧ m' ((c.tc : Thread Cert.SguReferenceIdeal.nD Cert.SguReferenceIdeal.τ).loc Cert.SguReferenceIdeal.main_arg3) = m ((c.tc : Thread Cert.SguIdeal.nD Cert.SguIdeal.τ).loc Cert.SguIdeal.main_arg3)) →
    ∃ (v0 : (c : Dev Cert.SguIdeal.nD) → Buf (Elt Ideal) ((c.tc : Thread Cert.SguIdeal.nD Cert.SguIdeal.τ).loc Cert.SguIdeal.main_v6)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v6) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v54) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3))

def preserves_Fcum_FcumIdeal : Prop :=
  True

def algebraic_FcumIdeal_FcumReferenceIdeal [hFcumIdeal : Cert.FcumIdeal.Facts] [hFcumReferenceIdeal : Cert.FcumReferenceIdeal.Facts] : Prop :=
  ∀ (m : (ℓ : Loc Cert.FcumIdeal.nD Cert.FcumIdeal.τ Cert.FcumIdeal.sig) → Buf (Elt Ideal) ℓ) (g : Dev Cert.FcumIdeal.nD → PrngReg)
    (m' : (ℓ : Loc Cert.FcumReferenceIdeal.nD Cert.FcumReferenceIdeal.τ Cert.FcumReferenceIdeal.sig) → Buf (Elt Ideal) ℓ) (g' : Dev Cert.FcumReferenceIdeal.nD → PrngReg), Pre_FcumIdeal m →
    (∀ c : Dev Cert.FcumIdeal.nD,
      m' ((c.tc : Thread Cert.FcumReferenceIdeal.nD Cert.FcumReferenceIdeal.τ).loc Cert.FcumReferenceIdeal.main_arg0) = m ((c.tc : Thread Cert.FcumIdeal.nD Cert.FcumIdeal.τ).loc Cert.FcumIdeal.main_arg0)
      ∧ m' ((c.tc : Thread Cert.FcumReferenceIdeal.nD Cert.FcumReferenceIdeal.τ).loc Cert.FcumReferenceIdeal.main_arg1) = m ((c.tc : Thread Cert.FcumIdeal.nD Cert.FcumIdeal.τ).loc Cert.FcumIdeal.main_arg1)) →
    ∃ (v0 : (c : Dev Cert.FcumIdeal.nD) → Buf (Elt Ideal) ((c.tc : Thread Cert.FcumIdeal.nD Cert.FcumIdeal.τ).loc Cert.FcumIdeal.main_v2_0)) (v1 : (c : Dev Cert.FcumIdeal.nD) → Buf (Elt Ideal) ((c.tc : Thread Cert.FcumIdeal.nD Cert.FcumIdeal.τ).loc Cert.FcumIdeal.main_v2_1)),
      θ_run (Cert.FcumIdeal.defs (F := Ideal)) (onTc (τ := Cert.FcumIdeal.τ) (Cert.FcumIdeal.main (F := Ideal))) ⟨m, fun _ => 0, g⟩ (fun r => ∀ c : Dev Cert.FcumIdeal.nD,
          r.2.mem ((c.tc : Thread Cert.FcumIdeal.nD Cert.FcumIdeal.τ).loc Cert.FcumIdeal.main_v2_0) = v0 c
          ∧ r.2.mem ((c.tc : Thread Cert.FcumIdeal.nD Cert.FcumIdeal.τ).loc Cert.FcumIdeal.main_v2_1) = v1 c
          ∧ r.2.mem ((c.tc : Thread Cert.FcumIdeal.nD Cert.FcumIdeal.τ).loc Cert.FcumIdeal.main_arg0) = m ((c.tc : Thread Cert.FcumIdeal.nD Cert.FcumIdeal.τ).loc Cert.FcumIdeal.main_arg0)
          ∧ r.2.mem ((c.tc : Thread Cert.FcumIdeal.nD Cert.FcumIdeal.τ).loc Cert.FcumIdeal.main_arg1) = m ((c.tc : Thread Cert.FcumIdeal.nD Cert.FcumIdeal.τ).loc Cert.FcumIdeal.main_arg1))
      ∧ θ_run (Cert.FcumReferenceIdeal.defs (F := Ideal)) (onTc (τ := Cert.FcumReferenceIdeal.τ) (Cert.FcumReferenceIdeal.main (F := Ideal))) ⟨m', fun _ => 0, g'⟩ (fun r => ∀ c : Dev Cert.FcumReferenceIdeal.nD,
          r.2.mem ((c.tc : Thread Cert.FcumReferenceIdeal.nD Cert.FcumReferenceIdeal.τ).loc Cert.FcumReferenceIdeal.main_v9) = v0 c
          ∧ r.2.mem ((c.tc : Thread Cert.FcumReferenceIdeal.nD Cert.FcumReferenceIdeal.τ).loc Cert.FcumReferenceIdeal.main_v12) = v1 c
          ∧ r.2.mem ((c.tc : Thread Cert.FcumReferenceIdeal.nD Cert.FcumReferenceIdeal.τ).loc Cert.FcumReferenceIdeal.main_arg0) = m' ((c.tc : Thread Cert.FcumReferenceIdeal.nD Cert.FcumReferenceIdeal.τ).loc Cert.FcumReferenceIdeal.main_arg0)
          ∧ r.2.mem ((c.tc : Thread Cert.FcumReferenceIdeal.nD Cert.FcumReferenceIdeal.τ).loc Cert.FcumReferenceIdeal.main_arg1) = m' ((c.tc : Thread Cert.FcumReferenceIdeal.nD Cert.FcumReferenceIdeal.τ).loc Cert.FcumReferenceIdeal.main_arg1))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hMlpMid : Cert.MlpMid.Facts) (hMlpMidIdeal : Cert.MlpMidIdeal.Facts) (hMlpMidReferenceIdeal : Cert.MlpMidReferenceIdeal.Facts) (hSgu : Cert.Sgu.Facts) (hSguIdeal : Cert.SguIdeal.Facts) (hSguReferenceIdeal : Cert.SguReferenceIdeal.Facts) (hFcum : Cert.Fcum.Facts) (hFcumIdeal : Cert.FcumIdeal.Facts) (hFcumReferenceIdeal : Cert.FcumReferenceIdeal.Facts) (hPre_gates_repeated : Cert.Pre_gates_repeated.Facts),
    quiescent_Kernel (hKernel := hKernel)
    ∧ quiescent_KernelIdeal (hKernelIdeal := hKernelIdeal)
    ∧ quiescent_KernelIdeal_pre_gates_repeated (hKernelIdeal := hKernelIdeal) (hPre_gates_repeated := hPre_gates_repeated)
    ∧ quiescent_ReferenceIdeal (hReferenceIdeal := hReferenceIdeal)
    ∧ quiescent_ReferenceIdeal_pre_gates_repeated (hReferenceIdeal := hReferenceIdeal) (hPre_gates_repeated := hPre_gates_repeated)
    ∧ quiescent_Mlp (hMlp := hMlp)
    ∧ quiescent_MlpIdeal (hMlpIdeal := hMlpIdeal)
    ∧ quiescent_MlpReferenceIdeal (hMlpReferenceIdeal := hMlpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MlpMid (hMlpMid := hMlpMid)
    ∧ quiescent_MlpMidIdeal (hMlpMidIdeal := hMlpMidIdeal)
    ∧ quiescent_MlpMidReferenceIdeal (hMlpMidReferenceIdeal := hMlpMidReferenceIdeal)
    ∧ quiescent_Sgu (hSgu := hSgu)
    ∧ quiescent_SguIdeal (hSguIdeal := hSguIdeal)
    ∧ quiescent_SguReferenceIdeal (hSguReferenceIdeal := hSguReferenceIdeal)
    ∧ quiescent_Fcum (hFcum := hFcum)
    ∧ quiescent_FcumIdeal (hFcumIdeal := hFcumIdeal)
    ∧ quiescent_FcumReferenceIdeal (hFcumReferenceIdeal := hFcumReferenceIdeal)
    ∧ preserves_Kernel_KernelIdeal
    ∧ algebraic_KernelIdeal_ReferenceIdeal_pre_gates_repeated (hKernelIdeal := hKernelIdeal) (hReferenceIdeal := hReferenceIdeal) (hPre_gates_repeated := hPre_gates_repeated)
    ∧ preserves_Mlp_MlpIdeal
    ∧ algebraic_MlpIdeal_MlpReferenceIdeal (hMlpIdeal := hMlpIdeal) (hMlpReferenceIdeal := hMlpReferenceIdeal)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_MlpMid_MlpMidIdeal
    ∧ algebraic_MlpMidIdeal_MlpMidReferenceIdeal (hMlpMidIdeal := hMlpMidIdeal) (hMlpMidReferenceIdeal := hMlpMidReferenceIdeal)
    ∧ preserves_Sgu_SguIdeal
    ∧ algebraic_SguIdeal_SguReferenceIdeal (hSguIdeal := hSguIdeal) (hSguReferenceIdeal := hSguReferenceIdeal)
    ∧ preserves_Fcum_FcumIdeal
    ∧ algebraic_FcumIdeal_FcumReferenceIdeal (hFcumIdeal := hFcumIdeal) (hFcumReferenceIdeal := hFcumReferenceIdeal)
-- ==== Pre_gates_repeated.lean ====
abbrev S16384x1536 : Shape := ⟨2, ![16384, 1536]⟩
abbrev S16384x512 : Shape := ⟨2, ![16384, 512]⟩
abbrev S4x32x4096 : Shape := ⟨3, ![4, 32, 4096]⟩
abbrev S4x4096x4x128 : Shape := ⟨4, ![4, 4096, 4, 128]⟩
abbrev S4x4x8x4096 : Shape := ⟨4, ![4, 4, 8, 4096]⟩
abbrev S4x4096x4x1 : Shape := ⟨4, ![4, 4096, 4, 1]⟩
abbrev S16384x1024 : Shape := ⟨2, ![16384, 1024]⟩
abbrev S_ : Shape := ⟨0, ![]⟩
abbrev S4x4x1x4096 : Shape := ⟨4, ![4, 4, 1, 4096]⟩

class Facts : Prop where
  shapeCasts_S16384x512_S4x4096x4x128 : S16384x512.ShapeCasts S4x4096x4x128
  shapeCasts_S4x32x4096_S4x4x8x4096 : S4x32x4096.ShapeCasts S4x4x8x4096
  slices_S4x4096x4x128_S4x4096x4x1_0_0_0_0 : S4x4096x4x128.Slices ![0, 0, 0, 0] S4x4096x4x1
  slices_S16384x1536_S16384x1024_0_0 : S16384x1536.Slices ![0, 0] S16384x1024
  bitsLt_bf16_f32 : FTy.bits .bf16 < FTy.bits .f32
  bcast_S_S16384x1024 : S_.BroadcastsInDim S16384x1024 (![] : Fin 0 → Fin S16384x1024.rank)
  bcast_S_S16384x512 : S_.BroadcastsInDim S16384x512 (![] : Fin 0 → Fin S16384x512.rank)
  bcast_S4x4096x4x1_S4x4096x4x128_0_1_2_3 : S4x4096x4x1.BroadcastsInDim S4x4096x4x128 (![0, 1, 2, 3] : Fin 4 → Fin S4x4096x4x128.rank)
  transposes_S4x4096x4x1_S4x4x1x4096_0_2_3_1 : S4x4096x4x1.Transposes [0, 2, 3, 1] S4x4x1x4096
  bcast_S4x4x1x4096_S4x4x8x4096_0_1_2_3 : S4x4x1x4096.BroadcastsInDim S4x4x8x4096 (![0, 1, 2, 3] : Fin 4 → Fin S4x4x8x4096.rank)

variable [Facts]

def fn {F : FTy → Type} [FloatOps F] (main_arg0 : FVec F S16384x1536 .bf16) (main_arg1 : FVec F S16384x512 .f32) (main_arg2 : FVec F S4x32x4096 .f32) : IVec S16384x1024 1 × IVec S16384x512 1 × IVec S4x4096x4x128 1 × IVec S4x4x8x4096 1 :=
  let main_v0 : FVec F S4x4096x4x128 .f32 := shapeCast S4x4096x4x128 main_arg1 shapeCasts_S16384x512_S4x4096x4x128
  let main_v1 : FVec F S4x4x8x4096 .f32 := shapeCast S4x4x8x4096 main_arg2 shapeCasts_S4x32x4096_S4x4x8x4096
  let main_v2 : FVec F S4x4096x4x1 .f32 := (extractStridedSlice S4x4096x4x1 ![0, 0, 0, 0] · slices_S4x4096x4x128_S4x4096x4x1_0_0_0_0) main_v0
  let main_v3 : FVec F S16384x1024 .bf16 := (extractStridedSlice S16384x1024 ![0, 0] · slices_S16384x1536_S16384x1024_0_0) main_arg0
  let main_v4 : FVec F S16384x1024 .f32 := (extf .f32 · bitsLt_bf16_f32) main_v3
  let main_v5 : FVec F S16384x1024 .f32 := Host.absf main_v4
  let main_cst : FVec F S_ .f32 := constant S_ .f32 0x7F800000#32
  let main_v6 : FVec F S16384x1024 .f32 := broadcastInDim S16384x1024 ![] bcast_S_S16384x1024 main_cst
  let main_v7 : IVec S16384x1024 1 := cmpf .olt main_v5 main_v6
  let main_v8 : FVec F S16384x512 .f32 := Host.absf main_arg1
  let main_cst_0 : FVec F S_ .f32 := constant S_ .f32 0x7F800000#32
  let main_v9 : FVec F S16384x512 .f32 := broadcastInDim S16384x512 ![] bcast_S_S16384x512 main_cst_0
  let main_v10 : IVec S16384x512 1 := cmpf .olt main_v8 main_v9
  let main_v11 : FVec F S4x4096x4x128 .f32 := broadcastInDim S4x4096x4x128 ![0, 1, 2, 3] bcast_S4x4096x4x1_S4x4096x4x128_0_1_2_3 main_v2
  let main_v12 : IVec S4x4096x4x128 1 := cmpf .oeq main_v0 main_v11
  let main_v13 : FVec F S4x4x1x4096 .f32 := (transpose S4x4x1x4096 [0, 2, 3, 1] · transposes_S4x4096x4x1_S4x4x1x4096_0_2_3_1) main_v2
  let main_v14 : FVec F S4x4x8x4096 .f32 := broadcastInDim S4x4x8x4096 ![0, 1, 2, 3] bcast_S4x4x1x4096_S4x4x8x4096_0_1_2_3 main_v13
  let main_v15 : IVec S4x4x8x4096 1 := cmpf .oeq main_v1 main_v14
  (main_v7, main_v10, main_v12, main_v15)
-- ==== Kernel.lean ====
abbrev S16384x1536 : Shape := ⟨2, ![16384, 1536]⟩
abbrev S16384x512 : Shape := ⟨2, ![16384, 512]⟩
abbrev S4x32x4096 : Shape := ⟨3, ![4, 32, 4096]⟩
abbrev S512x128 : Shape := ⟨2, ![512, 128]⟩
abbrev S4096x128 : Shape := ⟨2, ![4096, 128]⟩
abbrev S1x8x4096 : Shape := ⟨3, ![1, 8, 4096]⟩
abbrev S512x512 : Shape := ⟨2, ![512, 512]⟩
abbrev S512x1 : Shape := ⟨2, ![512, 1]⟩
abbrev S1x8x512 : Shape := ⟨3, ![1, 8, 512]⟩
abbrev S8x512 : Shape := ⟨2, ![8, 512]⟩
abbrev S512 : Shape := ⟨1, ![512]⟩

abbrev nBuf : Space → Nat
  | .hbm => 4
  | .vmem => 12
  | .smem => 0
  | _ => 0

abbrev bufTy : (tb : Table) → Fin (tcTables nBuf tb) → BufTy
  | .hbm, ⟨0, _⟩ => ⟨S16384x1536, .bf16⟩
  | .hbm, ⟨1, _⟩ => ⟨S16384x512, .f32⟩
  | .hbm, ⟨2, _⟩ => ⟨S4x32x4096, .f32⟩
  | .hbm, ⟨3, _⟩ => ⟨S16384x512, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S1x8x4096, .f32⟩
  | .local _ .vmem, ⟨9, _⟩ => ⟨S1x8x4096, .f32⟩
  | .local _ .vmem, ⟨10, _⟩ => ⟨S512x128, .f32⟩
  | .local _ .vmem, ⟨11, _⟩ => ⟨S512x128, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  ⟨c0_i32, v10, c1_i32_5⟩
def k0_mult1 (i : grid0.Coords) (k0_t1 : Fin (k0_t1_loop i).trips) : BitVec 32 :=
  let c0_i32 : BitVec 32 := 0#32
  let c1_i32_5 : BitVec 32 := 1#32
  let arg9 : BitVec 32 := Scf.iv c0_i32 c1_i32_5 k0_t1
  let c512_i32_19 : BitVec 32 := 512#32
  let v53 : BitVec 32 := Scalar.muli arg9 c512_i32_19
  v53
def k0_off1 (i : grid0.Coords) (k0_t1 : Fin (k0_t1_loop i).trips) : Fin 2 → Nat :=
  let c0_i32 : BitVec 32 := 0#32
  let c1_i32_5 : BitVec 32 := 1#32
  let arg9 : BitVec 32 := Scf.iv c0_i32 c1_i32_5 k0_t1
  let c512_i32_19 : BitVec 32 := 512#32
  let v53 : BitVec 32 := Scalar.muli arg9 c512_i32_19
  let v54 : BitVec 32 := v53
  let v55 : Index := Scalar.indexCast v54
  let c0_20 : Index := 0#32
  ![v55.toNat, 0]
def k0_off2 (i : grid0.Coords) (k0_t1 : Fin (k0_t1_loop i).trips) : Fin 3 → Nat :=
  let c0_24 : Index := 0#32
  let c0_25 : Index := 0#32
  let c0_i32 : BitVec 32 := 0#32
  let c1_i32_5 : BitVec 32 := 1#32
  let arg9 : BitVec 32 := Scf.iv c0_i32 c1_i32_5 k0_t1
  let c512_i32_19 : BitVec 32 := 512#32
  let v53 : BitVec 32 := Scalar.muli arg9 c512_i32_19
  let v54 : BitVec 32 := v53
  let v62 : Index := Scalar.indexCast v54
  ![0, 0, v62.toNat]
@[reducible] def k0_t2_loop (i : grid0.Coords) : Scf.Loop 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_6 : BitVec 32 := 1#32
  ⟨v10, v7, c1_i32_6⟩
def k0_mult2 (i : grid0.Coords) (k0_t2 : Fin (k0_t2_loop i).trips) : BitVec 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg9 : BitVec 32 := Scf.iv v10 c1_i32_6 k0_t2
  let c512_i32_19 : BitVec 32 := 512#32
  let v53 : BitVec 32 := Scalar.muli arg9 c512_i32_19
  v53
def k0_off3 (i : grid0.Coords) (k0_t2 : Fin (k0_t2_loop i).trips) : Fin 2 → Nat :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg9 : BitVec 32 := Scf.iv v10 c1_i32_6 k0_t2
  let c512_i32_19 : BitVec 32 := 512#32
  let v53 : BitVec 32 := Scalar.muli arg9 c512_i32_19
  let v54 : BitVec 32 := v53
  let v55 : Index := Scalar.indexCast v54
  let c0_20 : Index := 0#32
  ![v55.toNat, 0]
def k0_off4 (i : grid0.Coords) (k0_t2 : Fin (k0_t2_loop i).trips) : Fin 3 → Nat :=
  let c0_24 : Index := 0#32
  let c0_25 : Index := 0#32
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg9 : BitVec 32 := Scf.iv v10 c1_i32_6 k0_t2
  let c512_i32_19 : BitVec 32 := 512#32
  let v53 : BitVec 32 := Scalar.muli arg9 c512_i32_19
  let v54 : BitVec 32 := v53
  let v62 : Index := Scalar.indexCast v54
  ![0, 0, v62.toNat]
def k0_mult3 (i : grid0.Coords) : BitVec 32 :=
  let arg2 : BitVec 32 := BitVec.ofNat 32 (i 2).val
  let c512_i32 : BitVec 32 := 512#32
  let v13 : BitVec 32 := Scalar.muli arg2 c512_i32
  v13
def k0_off5 (i : grid0.Coords) : Fin 2 → Nat :=
  let arg2 : BitVec 32 := BitVec.ofNat 32 (i 2).val
  let c512_i32 : BitVec 32 := 512#32
  let v13 : BitVec 32 := Scalar.muli arg2 c512_i32
  let v14 : BitVec 32 := v13
  let v15 : Index := Scalar.indexCast v14
  let c0_7 : Index := 0#32
  ![v15.toNat, 0]
def k0_off6 (i : grid0.Coords) : Fin 3 → Nat :=
  let c0_11 : Index := 0#32
  let c0_12 : Index := 0#32
  let arg2 : BitVec 32 := BitVec.ofNat 32 (i 2).val
  let c512_i32 : BitVec 32 := 512#32
  let v13 : BitVec 32 := Scalar.muli arg2 c512_i32
  let v14 : BitVec 32 := v13
  let v22 : Index := Scalar.indexCast v14
  ![0, 0, v22.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "neg" => some ⊥
  | _ => none
-- ==== ReferenceIdeal.lean ====
abbrev S16384x1536 : Shape := ⟨2, ![16384, 1536]⟩
abbrev S16384x512 : Shape := ⟨2, ![16384, 512]⟩
abbrev S4x32x4096 : Shape := ⟨3, ![4, 32, 4096]⟩
abbrev S4x4096x4x128 : Shape := ⟨4, ![4, 4096, 4, 128]⟩
abbrev S4x4096x4x1 : Shape := ⟨4, ![4, 4096, 4, 1]⟩
abbrev S4x4096x4 : Shape := ⟨3, ![4, 4096, 4]⟩
abbrev S4x4x4096 : Shape := ⟨3, ![4, 4, 4096]⟩
abbrev S4x4x4096x4096 : Shape := ⟨4, ![4, 4, 4096, 4096]⟩
abbrev S_ : Shape := ⟨0, ![]⟩
abbrev S4x4x4096x1 : Shape := ⟨4, ![4, 4, 4096, 1]⟩
abbrev S4x4x1x4096 : Shape := ⟨4, ![4, 4, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x4x128x4096 : Shape := ⟨4, ![4, 4, 128, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x512, .f32⟩
  | .hbm, ⟨2, _⟩ => ⟨S4x32x4096, .f32⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S4x4096x4x128, .bf16⟩
  | .hbm, ⟨7, _⟩ => ⟨S4x4096x4x128, .f32⟩
  | .hbm, ⟨8, _⟩ => ⟨S4x4096x4x128, .bf16⟩
  | .hbm, ⟨9, _⟩ => ⟨S4x4096x4x128, .f32⟩
  | .hbm, ⟨10, _⟩ => ⟨S4x4096x4x128, .bf16⟩
  | .hbm, ⟨11, _⟩ => ⟨S4x4096x4x128, .f32⟩
  | .hbm, ⟨12, _⟩ => ⟨S4x4096x4x128, .f32⟩
  | .hbm, ⟨13, _⟩ => ⟨S4x4096x4x1, .f32⟩
  | .hbm, ⟨14, _⟩ => ⟨S4x4096x4, .f32⟩
  | .hbm, ⟨15, _⟩ => ⟨S4x4x4096, .f32⟩
  | .hbm, ⟨16, _⟩ => ⟨S4x4x4096x4096, .f32⟩
  | .hbm, ⟨17, _⟩ => ⟨S_, .f32⟩
  | .hbm, ⟨18, _⟩ => ⟨S4x4x4096x4096, .f32⟩
  | .hbm, ⟨19, _⟩ => ⟨S4x4x4096x4096, .f32⟩
  | .hbm, ⟨20, _⟩ => ⟨S4x4x4096x1, .f32⟩
  | .hbm, ⟨21, _⟩ => ⟨S4x4x4096x4096, .f32⟩
  | .hbm, ⟨22, _⟩ => ⟨S4x4x4096x4096, .f32⟩
  | .hbm, ⟨23, _⟩ => ⟨S4x4x1x4096, .f32⟩
  | .hbm, ⟨24, _⟩ => ⟨S4x4x4096x4096, .f32⟩
  | .hbm, ⟨25, _⟩ => ⟨S4x4x4096x4096, .f32⟩
  | .hbm, ⟨26, _⟩ => ⟨S4096, .i32⟩
  | .hbm, ⟨27, _⟩ => ⟨S4096x1, .i32⟩
  | .hbm, ⟨28, _⟩ => ⟨S4096, .i32⟩
  | .hbm, ⟨29, _⟩ => ⟨S1x4096, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4x4x4096x4096, .i1⟩
  | .hbm, ⟨36, _⟩ => ⟨S4x4x4096x4096, .f32⟩
  | .hbm, ⟨37, _⟩ => ⟨S4x4x4096x4096, .f32⟩
  | .hbm, ⟨38, _⟩ => ⟨S_, .f32⟩
  | .hbm, ⟨39, _⟩ => ⟨S4x4x4096, .f32⟩
  | .hbm, ⟨40, _⟩ => ⟨S_, .f32⟩
  | .hbm, ⟨41, _⟩ => ⟨S4x4x4096, .f32⟩
  | .hbm, ⟨42, _⟩ => ⟨S4x4x4096, .f32⟩
  | .hbm, ⟨43, _⟩ => ⟨S4x4x4096x1, .f32⟩
  | .hbm, ⟨44, _⟩ => ⟨S4x4x4096x4096, .f32⟩
  | .hbm, ⟨45, _⟩ => ⟨S4x4x4096x4096, .f32⟩
  | .hbm, ⟨46, _⟩ => ⟨S4x4x4096x4096, .f32⟩
  | .hbm, ⟨47, _⟩ => ⟨S_, .f32⟩
  | .hbm, ⟨48, _⟩ => ⟨S4x4x4096, .f32⟩
  | .hbm, ⟨49, _⟩ => ⟨S4x4x4096x1, .f32⟩
  | .hbm, ⟨50, _⟩ => ⟨S4x4x4096x4096, .f32⟩
  | .hbm, ⟨51, _⟩ => ⟨S4x4x4096x4096, .f32⟩
  | .hbm, ⟨52, _⟩ => ⟨S4x4x128x4096, .f32⟩
  | .hbm, ⟨53, _⟩ => ⟨S4x4096x4x128, .f32⟩
  | .hbm, ⟨54, _⟩ => ⟨S16384x512, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x1280 : Shape := ⟨2, ![1024, 1280]⟩
abbrev S1024x1536 : Shape := ⟨2, ![1024, 1536]⟩
abbrev S1024x128 : Shape := ⟨2, ![1024, 128]⟩
abbrev S1x1024 : Shape := ⟨2, ![1, 1024]⟩
abbrev S16384x1280 : Shape := ⟨2, ![16384, 1280]⟩
abbrev S16384x1536 : Shape := ⟨2, ![16384, 1536]⟩
abbrev S16384x128 : Shape := ⟨2, ![16384, 128]⟩
abbrev S512x1024 : Shape := ⟨2, ![512, 1024]⟩
abbrev S512x1280 : Shape := ⟨2, ![512, 1280]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1280, .f32⟩
  | .hbm, ⟨3, _⟩ => ⟨S1024x1536, .f32⟩
  | .hbm, ⟨4, _⟩ => ⟨S1024x128, .f32⟩
  | .hbm, ⟨5, _⟩ => ⟨S1x1024, .f32⟩
  | .hbm, ⟨6, _⟩ => ⟨S1024x1280, .bf16⟩
  | .hbm, ⟨7, _⟩ => ⟨S1024x1536, .bf16⟩
  | .hbm, ⟨8, _⟩ => ⟨S1024x128, .bf16⟩
  | .hbm, ⟨9, _⟩ => ⟨S16384x1280, .f32⟩
  | .hbm, ⟨10, _⟩ => ⟨S16384x1536, .bf16⟩
  | .hbm, ⟨11, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1536, .bf16⟩
  | .local _ .vmem, ⟨5, _⟩ => ⟨S1024x128, .bf16⟩
  | .local _ .vmem, ⟨6, _⟩ => ⟨S512x1280, .f32⟩
  | .local _ .vmem, ⟨7, _⟩ => ⟨S512x1280, .f32⟩
  | .local _ .vmem, ⟨8, _⟩ => ⟨S512x1536, .bf16⟩
  | .local _ .vmem, ⟨9, _⟩ => ⟨S512x1536, .bf16⟩
  | .local _ .vmem, ⟨10, _⟩ => ⟨S512x128, .f32⟩
  | .local _ .vmem, ⟨11, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjReferenceIdeal.lean ====
abbrev S16384x1024 : Shape := ⟨2, ![16384, 1024]⟩
abbrev S1024 : Shape := ⟨1, ![1024]⟩
abbrev S1024x1280 : Shape := ⟨2, ![1024, 1280]⟩
abbrev S1024x1536 : Shape := ⟨2, ![1024, 1536]⟩
abbrev S1024x128 : Shape := ⟨2, ![1024, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1280 : Shape := ⟨2, ![16384, 1280]⟩
abbrev S16384x1536 : Shape := ⟨2, ![16384, 1536]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1280, .f32⟩
  | .hbm, ⟨3, _⟩ => ⟨S1024x1536, .f32⟩
  | .hbm, ⟨4, _⟩ => ⟨S1024x128, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1280, .f32⟩
  | .hbm, ⟨22, _⟩ => ⟨S16384x1536, .f32⟩
  | .hbm, ⟨23, _⟩ => ⟨S16384x1536, .bf16⟩
  | .hbm, ⟨24, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Merge.lean ====
abbrev S16384x256 : Shape := ⟨2, ![16384, 256]⟩
abbrev S16384x1024 : Shape := ⟨2, ![16384, 1024]⟩
abbrev S1024 : Shape := ⟨1, ![1024]⟩
abbrev S1024x1024 : Shape := ⟨2, ![1024, 1024]⟩
abbrev S768x1024 : Shape := ⟨2, ![768, 1024]⟩
abbrev S256x1024 : Shape := ⟨2, ![256, 1024]⟩
abbrev S4x64x1024 : Shape := ⟨3, ![4, 64, 1024]⟩
abbrev S_ : Shape := ⟨0, ![]⟩
abbrev S4x128x1024 : Shape := ⟨3, ![4, 128, 1024]⟩
abbrev S512x1024 : Shape := ⟨2, ![512, 1024]⟩
abbrev S1280x1024 : Shape := ⟨2, ![1280, 1024]⟩
abbrev S16384x4x64 : Shape := ⟨3, ![16384, 4, 64]⟩
abbrev S16384x4x128 : Shape := ⟨3, ![16384, 4, 128]⟩
abbrev S16384x512 : Shape := ⟨2, ![16384, 512]⟩
abbrev S768 : Shape := ⟨1, ![768]⟩
abbrev S1x768 : Shape := ⟨2, ![1, 768]⟩
abbrev S256 : Shape := ⟨1, ![256]⟩
abbrev S1x256 : Shape := ⟨2, ![1, 256]⟩
abbrev S1x4x64 : Shape := ⟨3, ![1, 4, 64]⟩
abbrev S1x4x128 : Shape := ⟨3, ![1, 4, 128]⟩
abbrev S1x512 : Shape := ⟨2, ![1, 512]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x1280 : Shape := ⟨2, ![512, 1280]⟩

abbrev nBuf : Space → Nat
  | .hbm => 31
  | .vmem => 15
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024, .f32⟩
  | .hbm, ⟨6, _⟩ => ⟨S1024x1024, .f32⟩
  | .hbm, ⟨7, _⟩ => ⟨S768x1024, .f32⟩
  | .hbm, ⟨8, _⟩ => ⟨S256x1024, .f32⟩
  | .hbm, ⟨9, _⟩ => ⟨S4x64x1024, .f32⟩
  | .hbm, ⟨10, _⟩ => ⟨S_, .i32⟩
  | .hbm, ⟨11, _⟩ => ⟨S_, .f32⟩
  | .hbm, ⟨12, _⟩ => ⟨S4x128x1024, .f32⟩
  | .hbm, ⟨13, _⟩ => ⟨S512x1024, .f32⟩
  | .hbm, ⟨14, _⟩ => ⟨S1280x1024, .f32⟩
  | .hbm, ⟨15, _⟩ => ⟨S1280x1024, .bf16⟩
  | .hbm, ⟨16, _⟩ => ⟨S16384x4x64, .f32⟩
  | .hbm, ⟨17, _⟩ => ⟨S_, .i32⟩
  | .hbm, ⟨18, _⟩ => ⟨S_, .f32⟩
  | .hbm, ⟨19, _⟩ => ⟨S16384x4x128, .f32⟩
  | .hbm, ⟨20, _⟩ => ⟨S16384x512, .f32⟩
  | .hbm, ⟨21, _⟩ => ⟨S768, .f32⟩
  | .hbm, ⟨22, _⟩ => ⟨S1x768, .f32⟩
  | .hbm, ⟨23, _⟩ => ⟨S256, .f32⟩
  | .hbm, ⟨24, _⟩ => ⟨S1x256, .f32⟩
  | .hbm, ⟨25, _⟩ => ⟨S1x4x64, .f32⟩
  | .hbm, ⟨26, _⟩ => ⟨S_, .i32⟩
  | .hbm, ⟨27, _⟩ => ⟨S_, .f32⟩
  | .hbm, ⟨28, _⟩ => ⟨S1x4x128, .f32⟩
  | .hbm, ⟨29, _⟩ => ⟨S1x512, .f32⟩
  | .hbm, ⟨30, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1x768, .f32⟩
  | .local _ .vmem, ⟨11, _⟩ => ⟨S1x512, .f32⟩
  | .local _ .vmem, ⟨12, _⟩ => ⟨S1280x1024, .bf16⟩
  | .local _ .vmem, ⟨13, _⟩ => ⟨S512x1024, .f32⟩
  | .local _ .vmem, ⟨14, _⟩ => ⟨S512x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_call2_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S16384x256 : Shape := ⟨2, ![16384, 256]⟩
abbrev S16384x1024 : Shape := ⟨2, ![16384, 1024]⟩
abbrev S1024 : Shape := ⟨1, ![1024]⟩
abbrev S1024x1024 : Shape := ⟨2, ![1024, 1024]⟩
abbrev S16384x4x256 : Shape := ⟨3, ![16384, 4, 256]⟩
abbrev S_ : Shape := ⟨0, ![]⟩
abbrev S16384x4 : Shape := ⟨2, ![16384, 4]⟩
abbrev S16384x4x1 : Shape := ⟨3, ![16384, 4, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024, .f32⟩
  | .hbm, ⟨6, _⟩ => ⟨S1024x1024, .f32⟩
  | .hbm, ⟨7, _⟩ => ⟨S16384x1024, .f32⟩
  | .hbm, ⟨8, _⟩ => ⟨S16384x4x256, .f32⟩
  | .hbm, ⟨9, _⟩ => ⟨S16384x4x256, .f32⟩
  | .hbm, ⟨10, _⟩ => ⟨S_, .f32⟩
  | .hbm, ⟨11, _⟩ => ⟨S16384x4, .f32⟩
  | .hbm, ⟨12, _⟩ => ⟨S16384x4x1, .f32⟩
  | .hbm, ⟨13, _⟩ => ⟨S_, .f32⟩
  | .hbm, ⟨14, _⟩ => ⟨S16384x4x1, .f32⟩
  | .hbm, ⟨15, _⟩ => ⟨S16384x4x1, .f32⟩
  | .hbm, ⟨16, _⟩ => ⟨S_, .f32⟩
  | .hbm, ⟨17, _⟩ => ⟨S16384x4x1, .f32⟩
  | .hbm, ⟨18, _⟩ => ⟨S16384x4x1, .f32⟩
  | .hbm, ⟨19, _⟩ => ⟨S16384x4x1, .f32⟩
  | .hbm, ⟨20, _⟩ => ⟨S16384x4x256, .f32⟩
  | .hbm, ⟨21, _⟩ => ⟨S16384x4x256, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== MlpMid.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpMidReferenceIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Sgu.lean ====
abbrev S16384x1280 : Shape := ⟨2, ![16384, 1280]⟩
abbrev S256 : Shape := ⟨1, ![256]⟩
abbrev S4x128x128 : Shape := ⟨3, ![4, 128, 128]⟩
abbrev S4x128 : Shape := ⟨2, ![4, 128]⟩
abbrev S128x4x128 : Shape := ⟨3, ![128, 4, 128]⟩
abbrev S128x512 : Shape := ⟨2, ![128, 512]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S16384x256 : Shape := ⟨2, ![16384, 256]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S16384x1280, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S128x4x128, .f32⟩
  | .hbm, ⟨5, _⟩ => ⟨S128x512, .f32⟩
  | .hbm, ⟨6, _⟩ => ⟨S128x4, .f32⟩
  | .hbm, ⟨7, _⟩ => ⟨S128x4x64, .f32⟩
  | .hbm, ⟨8, _⟩ => ⟨S128x256, .f32⟩
  | .hbm, ⟨9, _⟩ => ⟨S1x256, .f32⟩
  | .hbm, ⟨10, _⟩ => ⟨S16384x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S128x512, .f32⟩
  | .local _ .vmem, ⟨6, _⟩ => ⟨S128x256, .f32⟩
  | .local _ .vmem, ⟨7, _⟩ => ⟨S512x256, .f32⟩
  | .local _ .vmem, ⟨8, _⟩ => ⟨S512x256, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguReferenceIdeal.lean ====
abbrev S16384x1280 : Shape := ⟨2, ![16384, 1280]⟩
abbrev S256 : Shape := ⟨1, ![256]⟩
abbrev S4x128x128 : Shape := ⟨3, ![4, 128, 128]⟩
abbrev S4x128 : Shape := ⟨2, ![4, 128]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S128x128 : Shape := ⟨2, ![128, 128]⟩
abbrev S128x128x4x64 : Shape := ⟨4, ![128, 128, 4, 64]⟩
abbrev S1x128x128 : Shape := ⟨3, ![1, 128, 128]⟩
abbrev S4x128x64x128 : Shape := ⟨4, ![4, 128, 64, 128]⟩
abbrev S128x4 : Shape := ⟨2, ![128, 4]⟩
abbrev S1x128x4x1 : Shape := ⟨4, ![1, 128, 4, 1]⟩

abbrev nBuf : Space → Nat
  | .hbm => 79
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S_, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S_, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x256, .f32⟩
  | .hbm, ⟨52, _⟩ => ⟨S16384x256, .f32⟩
  | .hbm, ⟨53, _⟩ => ⟨S1x256, .f32⟩
  | .hbm, ⟨54, _⟩ => ⟨S16384x256, .f32⟩
  | .hbm, ⟨55, _⟩ => ⟨S16384x256, .f32⟩
  | .hbm, ⟨56, _⟩ => ⟨S_, .f32⟩
  | .hbm, ⟨57, _⟩ => ⟨S128x128, .f32⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S128x128x4x64, .f32⟩
  | .hbm, ⟨68, _⟩ => ⟨S1x128x128, .f32⟩
  | .hbm, ⟨69, _⟩ => ⟨S4x128x128, .f32⟩
  | .hbm, ⟨70, _⟩ => ⟨S4x128x128, .f32⟩
  | .hbm, ⟨71, _⟩ => ⟨S4x128x64x128, .f32⟩
  | .hbm, ⟨72, _⟩ => ⟨S128x128x4x64, .f32⟩
  | .hbm, ⟨73, _⟩ => ⟨S128x4, .f32⟩
  | .hbm, ⟨74, _⟩ => ⟨S1x128x4x1, .f32⟩
  | .hbm, ⟨75, _⟩ => ⟨S128x128x4x64, .f32⟩
  | .hbm, ⟨76, _⟩ => ⟨S128x128x4x64, .f32⟩
  | .hbm, ⟨77, _⟩ => ⟨S16384x256, .f32⟩
  | .hbm, ⟨78, _⟩ => ⟨S16384x256, .f32⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_cst : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Fcum.lean ====
abbrev S16384x128 : Shape := ⟨2, ![16384, 128]⟩
abbrev S4 : Shape := ⟨1, ![4]⟩
abbrev S_ : Shape := ⟨0, ![]⟩
abbrev S128 : Shape := ⟨1, ![128]⟩
abbrev S1x128 : Shape := ⟨2, ![1, 128]⟩
abbrev S16384x512 : Shape := ⟨2, ![16384, 512]⟩
abbrev S4x32x4096 : Shape := ⟨3, ![4, 32, 4096]⟩
abbrev S512x128 : Shape := ⟨2, ![512, 128]⟩
abbrev S512x512 : Shape := ⟨2, ![512, 512]⟩
abbrev S1x32x512 : Shape := ⟨3, ![1, 32, 512]⟩
abbrev S128x512 : Shape := ⟨2, ![128, 512]⟩
abbrev S512x1 : Shape := ⟨2, ![512, 1]⟩
abbrev S1x512 : Shape := ⟨2, ![1, 512]⟩
abbrev S8x512 : Shape := ⟨2, ![8, 512]⟩
abbrev S1x8x512 : Shape := ⟨3, ![1, 8, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S4, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S16384x512, .f32⟩
  | .hbm, ⟨7, _⟩ => ⟨S4x32x4096, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x512, .f32⟩
  | .local _ .vmem, ⟨4, _⟩ => ⟨S512x512, .f32⟩
  | .local _ .vmem, ⟨5, _⟩ => ⟨S1x32x512, .f32⟩
  | .local _ .vmem, ⟨6, _⟩ => ⟨S1x32x512, .f32⟩
  | .local _ .vmem, ⟨7, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FcumReferenceIdeal.lean ====
abbrev S16384x128 : Shape := ⟨2, ![16384, 128]⟩
abbrev S4 : Shape := ⟨1, ![4]⟩
abbrev S4x4096x128 : Shape := ⟨3, ![4, 4096, 128]⟩
abbrev S4x4096x4 : Shape := ⟨3, ![4, 4096, 4]⟩
abbrev S1x1x4 : Shape := ⟨3, ![1, 1, 4]⟩
abbrev S_ : Shape := ⟨0, ![]⟩
abbrev S4x4096x4x128 : Shape := ⟨4, ![4, 4096, 4, 128]⟩
abbrev S4x4096x512 : Shape := ⟨3, ![4, 4096, 512]⟩
abbrev S16384x512 : Shape := ⟨2, ![16384, 512]⟩
abbrev S4x4x4096 : Shape := ⟨3, ![4, 4, 4096]⟩
abbrev S4x4x8x4096 : Shape := ⟨4, ![4, 4, 8, 4096]⟩
abbrev S4x32x4096 : Shape := ⟨3, ![4, 32, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S4, .f32⟩
  | .hbm, ⟨2, _⟩ => ⟨S4x4096x128, .f32⟩
  | .hbm, ⟨3, _⟩ => ⟨S4x4096x4, .f32⟩
  | .hbm, ⟨4, _⟩ => ⟨S1x1x4, .f32⟩
  | .hbm, ⟨5, _⟩ => ⟨S4x4096x4, .f32⟩
  | .hbm, ⟨6, _⟩ => ⟨S4x4096x4, .f32⟩
  | .hbm, ⟨7, _⟩ => ⟨S4x4096x4, .f32⟩
  | .hbm, ⟨8, _⟩ => ⟨S_, .f32⟩
  | .hbm, ⟨9, _⟩ => ⟨S4x4096x4, .f32⟩
  | .hbm, ⟨10, _⟩ => ⟨S4x4096x4, .f32⟩
  | .hbm, ⟨11, _⟩ => ⟨S4x4096x4, .f32⟩
  | .hbm, ⟨12, _⟩ => ⟨S4x4096x4, .f32⟩
  | .hbm, ⟨13, _⟩ => ⟨S4x4096x4, .i1⟩
  | .hbm, ⟨14, _⟩ => ⟨S4x4096x4, .f32⟩
  | .hbm, ⟨15, _⟩ => ⟨S4x4096x4, .f32⟩
  | .hbm, ⟨16, _⟩ => ⟨S4x4096x4, .f32⟩
  | .hbm, ⟨17, _⟩ => ⟨S4x4096x4, .f32⟩
  | .hbm, ⟨18, _⟩ => ⟨S4x4096x4, .f32⟩
  | .hbm, ⟨19, _⟩ => ⟨S4x4096x4, .f32⟩
  | .hbm, ⟨20, _⟩ => ⟨S4x4096x4, .f32⟩
  | .hbm, ⟨21, _⟩ => ⟨S4x4096x4, .f32⟩
  | .hbm, ⟨22, _⟩ => ⟨S4x4096x4, .f32⟩
  | .hbm, ⟨23, _⟩ => ⟨S_, .f32⟩
  | .hbm, ⟨24, _⟩ => ⟨S_, .f32⟩
  | .hbm, ⟨25, _⟩ => ⟨S4x4096x4, .f32⟩
  | .hbm, ⟨26, _⟩ => ⟨S4x4096x4x128, .f32⟩
  | .hbm, ⟨27, _⟩ => ⟨S4x4096x512, .f32⟩
  | .hbm, ⟨28, _⟩ => ⟨S16384x512, .f32⟩
  | .hbm, ⟨29, _⟩ => ⟨S4x4x4096, .f32⟩
  | .hbm, ⟨30, _⟩ => ⟨S4x4x8x4096, .f32⟩
  | .hbm, ⟨31, _⟩ => ⟨S4x32x4096, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Proof.AttnBlock.lean ====
/-
  What one block of 512 query rows and 512 key rows computes in the attention kernel, at an index.
-/
module

public import proofs.«01_k».proof.Proof.Gen.KernelIdeal
public import proofs.«01_k».proof.Proof.Gen.KernelIdeal.Skeleton
public import Idealize.ShloMosaic.Lib.Pipeline.ValueKit
public import Idealize.ShloMosaic.Lib.Pointwise
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.SL.Sem
open Cert.KernelIdeal Cert.KernelIdeal.Gen

/-- The scale `1/8` of the scores, as the printed word. -/
abbrev eighth : EReal := Scalar.ofBits (F := Ideal) .f32 0x3E000000#32

/-- The least score, as the printed word: negative infinity. -/
theorem neg_eq : (Named.named (F := Ideal) κ "neg" (0xFF7F0000#32 : BitVec 32) : Ideal .f32) = (⊥ : EReal) := rfl

theorem ninf : Ideal.ofBits .f32 0xFF800000#32 = (⊥ : EReal) := by simp [Ideal.ofBits, Ideal.ieee]

theorem stack_ok : Shape.Concatenates (List.replicate 64 S8x512) S512x512 0 := by decide

theorem wide_ok : Shape.Concatenates (List.replicate 4 S512x128) S512x512 1 := by decide

/-- A key block's gate rows laid under one another 64 times, as printed. -/
def stack (g : Vec Ideal S1x8x512 .f32) : FVec Ideal S512x512 .f32 :=
  concatenate S512x512 0 (List.replicate 64 ⟨S8x512, shapeCast S8x512 g shapeCasts_S1x8x512_S8x512⟩) (by exact stack_ok)

/-- The scaled products of a query block and a key block, as printed. -/
def products (q k : Vec Ideal S512x128 .bf16) : FVec Ideal S512x512 .f32 :=
  mulf (matmul (φ₁ := .bf16) (φ₂ := .bf16) dot_S512x128_S512x128_S512x512_1_1_0_0_n_n none q k (constant S512x512 .f32 0x00000000#32))
    (broadcast S512x512 (Scalar.ofBits .f32 0x3E000000#32))

theorem pay6_eq (q : Vec Ideal S512x128 .bf16) (cq : Vec Ideal S512x128 .f32) (k : Vec Ideal S512x128 .bf16)
    (ck : Vec Ideal S1x8x512 .f32) : k0_pay6 q cq k ck = subf (addf (products q k) (k0_pay2 cq)) (stack ck) := rfl

theorem products_apply (q k : Vec Ideal S512x128 .bf16) (r c : Fin 512) :
    products q k (ix2 r c) = ((∑ d : Fin 128, q (ix2 r d) * k (ix2 c d)) * eighth : EReal) := by
  pointwise [products]

theorem wide_apply (cq : Vec Ideal S512x128 .f32) (r c : Fin 512) :
    k0_pay2 cq (ix2 r c) = cq (ix2 r (⟨c.val % 128, Nat.mod_lt _ (by decide)⟩ : Fin 128)) := by
  refine concatenate_replicate_apply (t := S512x512) (s₁ := S512x128) 1 4 cq (by exact wide_ok) rfl _ _ rfl fun b hb => ?_
  fin_cases b
  · rfl
  · exact absurd rfl hb

theorem stack_apply (g : Vec Ideal S1x8x512 .f32) (r c : Fin 512) :
    stack g (ix2 r c) = g (ix3 (0 : Fin 1) (⟨r.val % 8, Nat.mod_lt _ (by decide)⟩ : Fin 8) c) := by
  have e : stack g (ix2 r c) = shapeCast S8x512 g shapeCasts_S1x8x512_S8x512
      (ix2 (⟨r.val % 8, Nat.mod_lt _ (by decide)⟩ : Fin 8) c) := by
    refine concatenate_replicate_apply (t := S512x512) (s₁ := S8x512) 0 64 _ (by exact stack_ok) rfl _ _ rfl fun b hb => ?_
    fin_cases b
    · exact absurd rfl hb
    · rfl
  rw [e]
  pointwise []

/-- A score of a block. -/
theorem pay6_apply (q : Vec Ideal S512x128 .bf16) (cq : Vec Ideal S512x128 .f32) (k : Vec Ideal S512x128 .bf16)
    (ck : Vec Ideal S1x8x512 .f32) (r c : Fin 512) :
    k0_pay6 q cq k ck (ix2 r c)
      = ((∑ d : Fin 128, q (ix2 r d) * k (ix2 c d)) * eighth + cq (ix2 r (⟨c.val % 128, Nat.mod_lt _ (by decide)⟩ : Fin 128))
        - ck (ix3 (0 : Fin 1) (⟨r.val % 8, Nat.mod_lt _ (by decide)⟩ : Fin 8) c) : EReal) := by
  rw [pay6_eq]
  show (products q k (ix2 r c) + k0_pay2 cq (ix2 r c) - stack ck (ix2 r c) : EReal) = _
  rw [products_apply, wide_apply, stack_apply]

/-- A diagonal block's scores with those of keys after the query put to negative infinity, as printed. -/
def masked (s : FVec Ideal S512x512 .f32) : FVec Ideal S512x512 .f32 :=
  select (cmpi .sle (iota .tc S512x512 32 [1] iota_S512x512_d1_w32) (iota .tc S512x512 32 [0] iota_S512x512_d0_w32)) s
    (broadcast S512x512 (Named.named (F := Ideal) κ "neg" (0xFF7F0000#32 : BitVec 32)))

theorem masked_apply (s : FVec Ideal S512x512 .f32) (r c : Fin 512) :
    masked s (ix2 r c) = (if c ≤ r then s (ix2 r c) else ⊥ : EReal) := by
  pointwise [masked]
  rw [WordCmp.cmpi_sle_ofNat (by have := c.isLt; omega) (by have := r.isLt; omega)]
  by_cases h : c ≤ r
  · rw [if_pos h, decide_eq_true (show c.val ≤ r.val from h)]; rfl
  · rw [if_neg h, decide_eq_false (show ¬ c.val ≤ r.val from h)]; rfl

theorem pay18_eq (q : Vec Ideal S512x128 .bf16) (cq : Vec Ideal S512x128 .f32) (k : Vec Ideal S512x128 .bf16)
    (ck : Vec Ideal S1x8x512 .f32) : k0_pay18 q cq k ck = masked (k0_pay6 q cq k ck) := rfl

section Step
variable (q : Vec Ideal S512x128 .bf16) (cq : Vec Ideal S512x128 .f32) (k w : Vec Ideal S512x128 .bf16)
  (ck : Vec Ideal S1x8x512 .f32) (mx ls : FVec Ideal S512x1 .f32) (ac : FVec Ideal S512x128 .f32) (r : Fin 512)

theorem pay7_apply : k0_pay7 q cq mx k ck (ix2 r (0 : Fin 1))
    = (max (mx (ix2 r (0 : Fin 1))) (Finset.univ.fold max ⊥ fun c : Fin 512 => k0_pay6 q cq k ck (ix2 r c)) : EReal) := by
  pointwise [k0_pay7]
  rw [ninf]

theorem pay8_apply : k0_pay8 q cq mx k ck (ix2 r (0 : Fin 1))
    = Ideal.exp (mx (ix2 r (0 : Fin 1)) - k0_pay7 q cq mx k ck (ix2 r (0 : Fin 1)) : EReal) := by
  pointwise [k0_pay8]

theorem pay9_apply (c : Fin 512) : k0_pay9 q cq mx k ck (ix2 r c)
    = Ideal.exp (k0_pay6 q cq k ck (ix2 r c) - k0_pay7 q cq mx k ck (ix2 r (0 : Fin 1)) : EReal) := by
  pointwise [k0_pay9]

theorem pay10_apply : k0_pay10 q cq mx ls k ck (ix2 r (0 : Fin 1))
    = (k0_pay8 q cq mx k ck (ix2 r (0 : Fin 1)) * ls (ix2 r (0 : Fin 1))
      + ∑ c : Fin 512, k0_pay9 q cq mx k ck (ix2 r c) : EReal) := by
  pointwise [k0_pay10]

theorem pay11_apply (l : Fin 128) : k0_pay11 q cq mx ac k w ck (ix2 r l)
    = (k0_pay8 q cq mx k ck (ix2 r (0 : Fin 1)) * ac (ix2 r l)
      + ∑ c : Fin 512, k0_pay9 q cq mx k ck (ix2 r c) * w (ix2 c l) : EReal) := by
  pointwise [k0_pay11]

/-- The diagonal block's scores: those of keys after the query are negative infinity. -/
theorem pay18_apply (c : Fin 512) : k0_pay18 q cq k ck (ix2 r c)
    = (if c ≤ r then k0_pay6 q cq k ck (ix2 r c) else ⊥ : EReal) := by
  rw [pay18_eq]
  exact masked_apply _ r c

theorem pay19_apply : k0_pay19 q cq mx k ck (ix2 r (0 : Fin 1))
    = (max (mx (ix2 r (0 : Fin 1))) (Finset.univ.fold max ⊥ fun c : Fin 512 => k0_pay18 q cq k ck (ix2 r c)) : EReal) := by
  pointwise [k0_pay19]
  rw [ninf]

theorem pay20_apply : k0_pay20 q cq mx k ck (ix2 r (0 : Fin 1))
    = (mx (ix2 r (0 : Fin 1)) - k0_pay19 q cq mx k ck (ix2 r (0 : Fin 1)) : EReal) := by
  pointwise [k0_pay20]

theorem pay1_apply (s : FVec Ideal S512x512 .f32) (mn d : FVec Ideal S512x1 .f32) (l : Fin 128) :
    k0_pay1 ls ac w s mn d (ix2 r l)
    = Ideal.div (Ideal.exp (d (ix2 r (0 : Fin 1)) : EReal) * ac (ix2 r l)
        + ∑ c : Fin 512, Ideal.exp (s (ix2 r c) - mn (ix2 r (0 : Fin 1)) : EReal) * w (ix2 c l))
      (Ideal.exp (d (ix2 r (0 : Fin 1)) : EReal) * ls (ix2 r (0 : Fin 1))
        + ∑ c : Fin 512, Ideal.exp (s (ix2 r c) - mn (ix2 r (0 : Fin 1)) : EReal)) := by
  pointwise [k0_pay1]

theorem pay3_apply : (k0_pay3 (F := Ideal)) (ix2 r (0 : Fin 1)) = (⊥ : EReal) := rfl

theorem pay4_apply : (k0_pay4 (F := Ideal)) (ix2 r (0 : Fin 1)) = (0 : EReal) := by
  pointwise [k0_pay4]

theorem pay5_apply (l : Fin 128) : (k0_pay5 (F := Ideal)) (ix2 r l) = (0 : EReal) := by
  pointwise [k0_pay5]

end Step

end Cert.KernelIdeal.Attn

end
-- ==== Proof.Online.lean ====
/-
  The softmax of one row, kept while its keys arrive in blocks: the greatest score so far, the sum of the
  exponentials below it, and the weighted sum of the values; a new block rescales the two sums by the change of
  the greatest score. Scores are extended reals, a masked score being −∞; the values may be infinite.
-/
module

public import Idealize.ShloMosaic.Lib.IdealHost
public import Idealize.ShloMosaic.Lib.Pointwise

@[expose] public section

noncomputable section

namespace Cert.Online

open Idealize.ShloMosaic

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, by norm_cast⟩

theorem IsReal.sub {x y : EReal} : IsReal x → IsReal y → IsReal (x - y) := by
  rintro ⟨a, rfl⟩ ⟨b, rfl⟩; exact ⟨a - b, by norm_cast⟩

theorem IsReal.mul {x y : EReal} : IsReal x → IsReal y → IsReal (x * y) := by
  rintro ⟨a, rfl⟩ ⟨b, rfl⟩; exact ⟨a * b, by norm_cast⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

theorem IsReal.of_ne {x : EReal} (h : x ≠ ⊥) (h' : x ≠ ⊤) : IsReal x :=
  ⟨x.toReal, (EReal.coe_toReal h' h).symm⟩

/-- A nonnegative real factor goes through a sum of extended reals. -/
theorem mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

theorem exp_bot : Ideal.exp ⊥ = 0 := rfl

theorem exp_coe (r : ℝ) : Ideal.exp (r : EReal) = ((Real.exp r : ℝ) : EReal) := rfl

variable (S v : ℕ → EReal)

/-- The greatest of the first `n` scores. -/
def top (n : ℕ) : EReal := (Finset.range n).sup S

/-- Key `k`'s weight among the first `n`. -/
def wt (n k : ℕ) : EReal := Ideal.exp (S k - top S n)

/-- The sum of the first `n` weights. -/
def den (n : ℕ) : EReal := ∑ k ∈ Finset.range n, wt S n k

/-- The sum of the first `n` values, weighted. -/
def num (n : ℕ) : EReal := ∑ k ∈ Finset.range n, wt S n k * v k

theorem top_zero : top S 0 = ⊥ := rfl
theorem den_zero : den S 0 = 0 := rfl
theorem num_zero : num S v 0 = 0 := rfl

/-- The greatest score after a block of `B` more keys. -/
theorem top_add (n B : ℕ) : top S (n + B) = max (top S n) (Finset.univ.fold max ⊥ fun c : Fin B => S (n + c)) := by
  have e : (Finset.univ.fold max ⊥ fun c : Fin B => S (n + c)) = Finset.univ.sup fun c : Fin B => S (n + c) := rfl
  rw [e]
  apply le_antisymm
  · refine Finset.sup_le fun k hk => ?_
    have hk := Finset.mem_range.mp hk
    by_cases h : k < n
    · exact le_max_of_le_left (Finset.le_sup (f := S) (Finset.mem_range.mpr h))
    · refine le_max_of_le_right ?_
      have := Finset.le_sup (f := fun c : Fin B => S (n + c)) (Finset.mem_univ ⟨k - n, by omega⟩)
      simpa [Nat.add_sub_cancel' (by omega : n ≤ k)] using this
  · refine max_le (Finset.sup_mono ?_) (Finset.sup_le fun c _ => ?_)
    · intro k hk; exact Finset.mem_range.mpr (lt_of_lt_of_le (Finset.mem_range.mp hk) (by omega))
    · exact Finset.le_sup (f := S) (Finset.mem_range.mpr (by have := c.isLt; omega))

variable {S}

section
variable (h0 : IsReal (S 0)) (ht : ∀ k, S k ≠ ⊤)
include h0 ht

/-- The greatest score of a nonempty start of the row is a real number. -/
theorem top_real {n : ℕ} (hn : 0 < n) : IsReal (top S n) := by
  obtain ⟨r, hr⟩ := h0
  refine IsReal.of_ne ?_ ?_
  · intro e
    have := Finset.le_sup (f := S) (Finset.mem_range.mpr hn)
    rw [hr, show (Finset.range n).sup S = ⊥ from e] at this
    exact EReal.coe_ne_bot r (le_bot_iff.mp this)
  · intro e
    have : (Finset.range n).sup S < ⊤ := (Finset.sup_lt_iff (by exact bot_lt_top)).mpr fun k _ => lt_top_iff_ne_top.mpr (ht k)
    exact absurd e this.ne

/-- A weight rescaled from the greatest of the first `n` scores to the greatest of the first `n'`. -/
theorem rescale {n n' : ℕ} (hn : 0 < n) (hn' : 0 < n') (k : ℕ) :
    ∃ c : ℝ, 0 ≤ c ∧ Ideal.exp (top S n - top S n') = (c : EReal) ∧ (c : EReal) * wt S n k = wt S n' k := by
  obtain ⟨a, ha⟩ := top_real h0 ht hn
  obtain ⟨b, hb⟩ := top_real h0 ht hn'
  refine ⟨Real.exp (a - b), (Real.exp_pos _).le, ?_, ?_⟩
  · rw [ha, hb, ← EReal.coe_sub, exp_coe]
  · unfold wt
    rw [ha, hb]
    rcases eq_or_ne (S k) ⊥ with h | h
    · rw [h, EReal.bot_sub, EReal.bot_sub, exp_bot, mul_zero]
    · obtain ⟨s, hs⟩ := IsReal.of_ne h (ht k)
      rw [hs, ← EReal.coe_sub, ← EReal.coe_sub, exp_coe, exp_coe, ← EReal.coe_mul, ← Real.exp_add]
      congr 2; ring

/-- The sum of weights after a block of `B` more keys. -/
theorem den_add {n B : ℕ} (hB : 0 < B) :
    den S (n + B) = Ideal.exp (top S n - top S (n + B)) * den S n + ∑ c : Fin B, Ideal.exp (S (n + c) - top S (n + B)) := by
  unfold den
  rw [Finset.sum_range_add]
  congr 1
  · rcases Nat.eq_zero_or_pos n with rfl | hn
    · simp
    · obtain ⟨c, hc, e, -⟩ := rescale h0 ht hn (n' := n + B) (by omega) 0
      rw [e, mul_sum c hc]
      refine Finset.sum_congr rfl fun k _ => ?_
      obtain ⟨c', -, e', h⟩ := rescale h0 ht hn (n' := n + B) (by omega) k
      rw [← h, ← e, e']
  · exact Finset.sum_range _

/-- The weighted sum of the values after a block of `B` more keys. -/
theorem num_add {n B : ℕ} (hB : 0 < B) :
    num S v (n + B) = Ideal.exp (top S n - top S (n + B)) * num S v n
      + ∑ c : Fin B, Ideal.exp (S (n + c) - top S (n + B)) * v (n + c) := by
  unfold num
  rw [Finset.sum_range_add]
  congr 1
  · rcases Nat.eq_zero_or_pos n with rfl | hn
    · simp
    · obtain ⟨c, hc, e, -⟩ := rescale h0 ht hn (n' := n + B) (by omega) 0
      rw [e, mul_sum c hc]
      refine Finset.sum_congr rfl fun k _ => ?_
      obtain ⟨c', -, e', h⟩ := rescale h0 ht hn (n' := n + B) (by omega) k
      rw [← h, ← mul_assoc, ← e, e']
  · exact Finset.sum_range _

/-- Keys masked at the end of the row change neither the greatest score, nor the two sums. -/
theorem extend {n N : ℕ} (hn : 0 < n) (hN : n ≤ N) (hb : ∀ k, n ≤ k → S k = ⊥) :
    top S N = top S n ∧ den S N = den S n ∧ num S v N = num S v n := by
  have e : top S N = top S n := by
    apply le_antisymm
    · refine Finset.sup_le fun k _ => ?_
      by_cases h : k < n
      · exact Finset.le_sup (f := S) (Finset.mem_range.mpr h)
      · rw [hb k (by omega)]; exact bot_le
    · exact Finset.sup_mono fun k hk => Finset.mem_range.mpr (lt_of_lt_of_le (Finset.mem_range.mp hk) hN)
  obtain ⟨r, hr⟩ := top_real h0 ht hn
  have z : ∀ k, n ≤ k → wt S n k = 0 := fun k hk => by
    unfold wt; rw [hb k hk, EReal.bot_sub, exp_bot]
  have w : ∀ k, wt S N k = wt S n k := fun k => by unfold wt; rw [e]
  refine ⟨e, ?_, ?_⟩
  · unfold den
    simp only [w]
    refine (Finset.sum_subset (Finset.range_mono hN) fun k _ hk => ?_).symm
    exact z k (by simpa using hk)
  · unfold num
    simp only [w]
    refine (Finset.sum_subset (Finset.range_mono hN) fun k _ hk => ?_).symm
    rw [z k (by simpa using hk), zero_mul]

/-- The sum of the weights is a positive real number. -/
theorem den_pos {n : ℕ} (hn : 0 < n) : ∃ d : ℝ, 0 < d ∧ den S n = (d : EReal) := by
  obtain ⟨b, hb⟩ := top_real h0 ht hn
  have hw : ∀ k, ∃ r : ℝ, 0 ≤ r ∧ wt S n k = (r : EReal) := fun k => by
    unfold wt
    rw [hb]
    rcases eq_or_ne (S k) ⊥ with h | h
    · exact ⟨0, le_rfl, by rw [h, EReal.bot_sub, exp_bot]; simp⟩
    · obtain ⟨s, hs⟩ := IsReal.of_ne h (ht k)
      exact ⟨Real.exp (s - b), (Real.exp_pos _).le, by rw [hs, ← EReal.coe_sub, exp_coe]⟩
  choose f hf hw using hw
  refine ⟨∑ k ∈ Finset.range n, f k, ?_, ?_⟩
  · refine Finset.sum_pos' (fun k _ => hf k) ⟨0, Finset.mem_range.mpr hn, ?_⟩
    obtain ⟨s, hs⟩ := h0
    have := hw 0
    unfold wt at this
    rw [hb, hs, ← EReal.coe_sub, exp_coe] at this
    rw [← EReal.coe_eq_coe_iff.mp this]; exact Real.exp_pos _
  · unfold den
    simp only [hw]
    exact (map_sum (⟨⟨Real.toEReal, EReal.coe_zero⟩, EReal.coe_add⟩ : ℝ →+ EReal) f (Finset.range n)).symm

/-- Weighting the values by normalised weights is normalising the weighted sum. -/
theorem normalised {n : ℕ} (hn : 0 < n) :
    ∑ k ∈ Finset.range n, v k * Ideal.div (wt S n k) (den S n) = Ideal.div (num S v n) (den S n) := by
  obtain ⟨d, hd, e⟩ := den_pos h0 ht hn
  rw [e, Ideal.div_coe hd.ne', mul_comm]
  unfold num
  rw [mul_sum _ (by positivity)]
  refine Finset.sum_congr rfl fun k _ => ?_
  rw [Ideal.div_coe hd.ne', ← mul_assoc, mul_comm (v k), mul_comm]

end

end Cert.Online

end
-- ==== Proof.AttnLoop.lean ====
/-
  The attention kernel's loop over the key blocks before the query block, and the block the grid point leaves: the
  running greatest score, sum of weights and weighted values are those of the keys met so far.
-/
module

public import proofs.«01_k».proof.Proof.Gen.KernelIdeal.Value
public import proofs.«01_k».proof.Proof.AttnBlock
public import proofs.«01_k».proof.Proof.Online
public import Idealize.ShloMosaic.Lib.Pipeline.ReadBack
public import Idealize.ShloMosaic.Lib.LoopRemainder
public import Idealize.ShloMosaic.Lib.WholeRead

@[expose] public section

set_option maxRecDepth 16384

noncomputable section

namespace Cert.KernelIdeal.Attn

open Idealize.ShloMosaic Idealize.ShloMosaic.TcCoe Idealize.SL.Sem
open Cert.KernelIdeal Cert.KernelIdeal.Gen Cert.KernelIdeal.Value Cert.Online

/-! ## Key blocks read from the whole sequence -/

/-- Key `c` of block `n`. -/
def keyIx (n : ℕ) (c : Fin 512) : Fin 4096 := ⟨(512 * n + c.val) % 4096, Nat.mod_lt _ (by decide)⟩

theorem ld_keys (x : Vec Ideal S4096x128 .bf16) (n : ℕ) (hn : n < 8) (off : Fin 2 → ℕ) (inb) (e : off = ![512 * n, 0])
    (c : Fin 512) (l : Fin 128) :
    View.ld x (Rect.unit (s := S4096x128) off ![512, 128] inb) (ix2 c l) = x (ix2 (keyIx n c) l) := by
  subst e
  refine congrArg x (funext fun a => Fin.ext ?_)
  fin_cases a
  · show 512 * n + 1 * c.val = (512 * n + c.val) % 4096
    omega
  · show 0 + 1 * l.val = l.val
    omega

theorem ld_gates (x : Vec Ideal S1x8x4096 .f32) (n : ℕ) (hn : n < 8) (off : Fin 3 → ℕ) (inb)
    (e : off = ![0, 0, 512 * n]) (s : Fin 8) (c : Fin 512) :
    View.ld x (Rect.unit (s := S1x8x4096) off ![1, 8, 512] inb) (ix3 (0 : Fin 1) s c)
      = x (ix3 (0 : Fin 1) s (keyIx n c)) := by
  subst e
  refine congrArg x (funext fun a => Fin.ext ?_)
  fin_cases a
  · rfl
  · show 0 + 1 * s.val = s.val
    omega
  · show 512 * n + 1 * c.val = (512 * n + c.val) % 4096
    omega

/-! ## The state of the loop -/

variable (m : (ℓ : Loc nD τ sig) → Buf (Elt Ideal) ℓ)

/-- The running greatest score, sum of weights and weighted values before trip `n`. -/
def state (c : Dev nD) (t : Fin cfg0.N) (n : ℕ) :
    FVec Ideal S512x1 .f32 × FVec Ideal S512x1 .f32 × FVec Ideal S512x128 .f32 :=
  st_k0_t1 (F := Ideal) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (iblk m c 0 t) (iblk m c 3 t)
    ((hs0_1 t).unread (iblk m c 1 t)) ((hs0_2 t).unread (iblk m c 2 t)) ((hs0_4 t).unread (iblk m c 4 t))
    (k0_pay3, k0_pay4, k0_pay5) n

theorem trips_eq : ∀ i : grid0.Coords, (k0_t1_loop i).trips = (i 2).val := by decide +kernel

theorem coords_eq : ∀ t : Fin cfg0.N, (grid0.coords t 2).val = t.val % 8 :=
  (by decide +kernel : ∀ t : Fin grid0.N, _)

/-- The keys, values and gates read in trip `k`. -/
abbrev keys (c : Dev nD) (t : Fin cfg0.N) (k : Fin (k0_t1_loop (grid0.coords t)).trips) : Vec Ideal S512x128 .bf16 :=
  View.ld (iblk m c 1 t) (Rect.unit (s := S4096x128) (k0_off1 (grid0.coords t) k) ![512, 128] (k0_off1_inb _ k))

abbrev vals (c : Dev nD) (t : Fin cfg0.N) (k : Fin (k0_t1_loop (grid0.coords t)).trips) : Vec Ideal S512x128 .bf16 :=
  View.ld (iblk m c 2 t) (Rect.unit (s := S4096x128) (k0_off1 (grid0.coords t) k) ![512, 128] (k0_off1_inb _ k))

abbrev gates (c : Dev nD) (t : Fin cfg0.N) (k : Fin (k0_t1_loop (grid0.coords t)).trips) : Vec Ideal S1x8x512 .f32 :=
  View.ld (iblk m c 4 t) (Rect.unit (s := S1x8x4096) (k0_off2 (grid0.coords t) k) ![1, 8, 512] (k0_off2_inb _ k))

/-- The keys, values and gates of the diagonal block. -/
abbrev dKeys (c : Dev nD) (t : Fin cfg0.N) : Vec Ideal S512x128 .bf16 :=
  View.ld (iblk m c 1 t) (Rect.unit (s := S4096x128) (k0_off5 (grid0.coords t)) ![512, 128] (k0_off5_inb _))

abbrev dVals (c : Dev nD) (t : Fin cfg0.N) : Vec Ideal S512x128 .bf16 :=
  View.ld (iblk m c 2 t) (Rect.unit (s := S4096x128) (k0_off5 (grid0.coords t)) ![512, 128] (k0_off5_inb _))

abbrev dGates (c : Dev nD) (t : Fin cfg0.N) : Vec Ideal S1x8x512 .f32 :=
  View.ld (iblk m c 4 t) (Rect.unit (s := S1x8x4096) (k0_off6 (grid0.coords t)) ![1, 8, 512] (k0_off6_inb _))

theorem state_zero (c : Dev nD) (t : Fin cfg0.N) : state m c t 0 = (k0_pay3, k0_pay4, k0_pay5) := rfl

theorem state_succ (c : Dev nD) (t : Fin cfg0.N) (k : Fin (k0_t1_loop (grid0.coords t)).trips) :
    state m c t (k.val + 1)
      = (k0_pay7 (iblk m c 0 t) (iblk m c 3 t) (state m c t k.val).1 (keys m c t k) (gates m c t k),
         k0_pay10 (iblk m c 0 t) (iblk m c 3 t) (state m c t k.val).1 (state m c t k.val).2.1 (keys m c t k)
           (gates m c t k),
         k0_pay11 (iblk m c 0 t) (iblk m c 3 t) (state m c t k.val).1 (state m c t k.val).2.2 (keys m c t k)
           (vals m c t k) (gates m c t k)) := by
  unfold state
  rw [st_k0_t1_succ]
  unfold tripR_k0_t1 trip_k0_t1
  dsimp only
  have e1 : ∀ B, View.readAt (Elt Ideal) (ms0_1 t).view B ((hs0_1 t).unread (iblk m c 1 t)) = fun x => iblk m c 1 t (B.idx x) :=
    fun B => funext fun x => (hs0_1 t).readAt_unread (iblk m c 1 t) B x
  have e2 : ∀ B, View.readAt (Elt Ideal) (ms0_2 t).view B ((hs0_2 t).unread (iblk m c 2 t)) = fun x => iblk m c 2 t (B.idx x) :=
    fun B => funext fun x => (hs0_2 t).readAt_unread (iblk m c 2 t) B x
  have e4 : ∀ B, View.readAt (Elt Ideal) (ms0_4 t).view B ((hs0_4 t).unread (iblk m c 4 t)) = fun x => iblk m c 4 t (B.idx x) :=
    fun B => funext fun x => (hs0_4 t).readAt_unread (iblk m c 4 t) B x
  rw [e1, e2, e4]
  rfl

/-- What a grid point leaves: the diagonal block's keys added to the loop's state, and the division. -/
theorem out_eq (c : Dev nD) (t : Fin cfg0.N) :
    outsAt0 m c t = k0_pay1 (state m c t (t.val % 8)).2.1 (state m c t (t.val % 8)).2.2 (dVals m c t)
      (k0_pay18 (iblk m c 0 t) (iblk m c 3 t) (dKeys m c t) (dGates m c t))
      (k0_pay19 (iblk m c 0 t) (iblk m c 3 t) (state m c t (t.val % 8)).1 (dKeys m c t) (dGates m c t))
      (k0_pay20 (iblk m c 0 t) (iblk m c 3 t) (state m c t (t.val % 8)).1 (dKeys m c t) (dGates m c t)) := by
  rw [← coords_eq t, ← trips_eq]
  funext j
  unfold outsAt0
  frame_out
  simp only [Scf.rem_trips]
  rfl

/-! ## The state in closed form -/

section
variable (c : Dev nD) (t : Fin cfg0.N) (r : Fin 512) (l : Fin 128) (raw S v : ℕ → EReal)
  (h0 : IsReal (S 0)) (ht : ∀ k, S k ≠ ⊤)
  (hS : ∀ k, S k = if k ≤ 512 * (t.val % 8) + r.val then raw k else ⊥)
  (hr : ∀ n < 8, ∀ k g, (∀ c' d, k (ix2 c' d) = iblk m c 1 t (ix2 (keyIx n c') d)) →
    (∀ s c', g (ix3 (0 : Fin 1) s c') = iblk m c 4 t (ix3 (0 : Fin 1) s (keyIx n c'))) →
    ∀ c', k0_pay6 (iblk m c 0 t) (iblk m c 3 t) k g (ix2 r c') = raw (512 * n + c'.val))
  (hv : ∀ n < 8, ∀ c', iblk m c 2 t (ix2 (keyIx n c') l) = v (512 * n + c'.val))
include h0 ht hS hr hv

theorem state_inv (n : ℕ) (hn : n ≤ t.val % 8) :
    (state m c t n).1 (ix2 r (0 : Fin 1)) = top S (512 * n)
      ∧ (state m c t n).2.1 (ix2 r (0 : Fin 1)) = den S (512 * n)
      ∧ (state m c t n).2.2 (ix2 r l) = num S v (512 * n) := by
  induction n with
  | zero =>
    rw [state_zero]
    exact ⟨pay3_apply r, pay4_apply r, pay5_apply r l⟩
  | succ n ih =>
    obtain ⟨i1, i2, i3⟩ := ih (by omega)
    have hk : n < (k0_t1_loop (grid0.coords t)).trips := by rw [trips_eq, coords_eq]; omega
    have e := state_succ m c t ⟨n, hk⟩
    have hs : ∀ c' : Fin 512, k0_pay6 (iblk m c 0 t) (iblk m c 3 t) (keys m c t ⟨n, hk⟩) (gates m c t ⟨n, hk⟩) (ix2 r c')
        = S (512 * n + c'.val) := fun c' => by
      rw [hS, if_pos (by omega)]
      exact hr n (by omega) (keys m c t ⟨n, hk⟩) (gates m c t ⟨n, hk⟩)
        (fun c' d => ld_keys _ n (by omega) _ _ (k0_off1_eq _ _) c' d) (fun s c' => ld_gates _ n (by omega) _ _ (k0_off2_eq _ _) s c') c'
    have hw : ∀ c' : Fin 512, vals m c t ⟨n, hk⟩ (ix2 c' l) = v (512 * n + c'.val) := fun c' =>
      (ld_keys _ n (by omega) _ _ (k0_off1_eq _ _) c' l).trans (hv n (by omega) c')
    have e7 : k0_pay7 (iblk m c 0 t) (iblk m c 3 t) (state m c t n).1 (keys m c t ⟨n, hk⟩)
        (gates m c t ⟨n, hk⟩) (ix2 r (0 : Fin 1)) = top S (512 * n + 512) := by
      rw [pay7_apply, i1, top_add]
      simp only [hs]
    rw [show 512 * (n + 1) = 512 * n + 512 by ring]
    rw [show state m c t (n + 1) = _ from e]
    refine ⟨e7, ?_, ?_⟩
    · dsimp only
      rw [pay10_apply, pay8_apply, e7, i1, i2, den_add h0 ht (by decide)]
      simp only [pay9_apply, hs, e7]
    · dsimp only
      rw [pay11_apply, pay8_apply, e7, i1, i3, num_add v h0 ht (by decide)]
      simp only [pay9_apply, hs, hw, e7]

/-- The grid point's block, from the keys up to the query block's end. -/
theorem out_apply : (outsAt0 m c t (ix2 r l) : EReal)
    = Ideal.div (num S v (512 * (t.val % 8) + 512)) (den S (512 * (t.val % 8) + 512)) := by
  obtain ⟨i1, i2, i3⟩ := state_inv m c t r l raw S v h0 ht hS hr hv (t.val % 8) le_rfl
  have hn : t.val % 8 < 8 := Nat.mod_lt _ (by decide)
  have o5 : k0_off5 (grid0.coords t) = ![512 * (t.val % 8), 0] := by rw [k0_off5_eq, coords_eq]
  have o6 : k0_off6 (grid0.coords t) = ![0, 0, 512 * (t.val % 8)] := by rw [k0_off6_eq, coords_eq]
  have hs : ∀ c' : Fin 512, k0_pay18 (iblk m c 0 t) (iblk m c 3 t) (dKeys m c t) (dGates m c t) (ix2 r c')
      = S (512 * (t.val % 8) + c'.val) := fun c' => by
    rw [pay18_apply, hS]
    by_cases h : c' ≤ r
    · have h' : c'.val ≤ r.val := h
      rw [if_pos h, if_pos (by omega)]
      exact hr _ hn (dKeys m c t) (dGates m c t) (fun c' d => ld_keys _ _ hn _ _ o5 c' d) (fun s c' => ld_gates _ _ hn _ _ o6 s c') c'
    · have h' : ¬ c'.val ≤ r.val := h
      rw [if_neg h, if_neg (by omega)]
  have hw : ∀ c' : Fin 512, dVals m c t (ix2 c' l) = v (512 * (t.val % 8) + c'.val) := fun c' =>
    (ld_keys _ _ hn _ _ o5 c' l).trans (hv _ hn c')
  have e19 : k0_pay19 (iblk m c 0 t) (iblk m c 3 t) (state m c t (t.val % 8)).1 (dKeys m c t) (dGates m c t) (ix2 r (0 : Fin 1))
      = top S (512 * (t.val % 8) + 512) := by
    rw [pay19_apply, i1, top_add]
    simp only [hs]
  rw [out_eq, pay1_apply, pay20_apply, e19, i1, i2, i3, den_add h0 ht (by decide), num_add v h0 ht (by decide)]
  simp only [hs, hw]

end

end Cert.KernelIdeal.Attn

end
-- ==== Proof.AttnMath.lean ====
/-
  Causal attention with forget gates, one query row and one value column at a time: the scores, their weights, and
  the result, from two tables of extended reals - the queries, keys and values side by side, and the summed gates.
-/
module

public import proofs.«01_k».proof.Proof.Online

@[expose] public section

noncomputable section

namespace Cert.Attn

open Idealize.ShloMosaic Cert.Online

/-- The scale of the scores. -/
def eighth : EReal := Ideal.ofBits .f32 0x3E000000#32

theorem eighth_real : IsReal eighth := by
  refine ⟨1 / 8, ?_⟩
  unfold eighth
  simp [Ideal.ofBits, Ideal.ieee, -EReal.coe_mul]
  norm_num

variable (Q G : ℕ → ℕ → EReal)

/-- The row of key `k` in the sequence of row `R`. -/
def keyRow (R k : ℕ) : ℕ := R / 4096 * 4096 + k % 4096

/-- The score of key `k` for the query in row `R`, head `h`. -/
def score (R h k : ℕ) : EReal :=
  (∑ d : Fin 128, Q R (128 * h + d.val) * Q (keyRow R k) (512 + 128 * h + d.val)) * eighth + G R (128 * h)
    - G (keyRow R k) (128 * h)

/-- The same with the keys after the query masked. -/
def sc (R h k : ℕ) : EReal := if k ≤ R % 4096 then score Q G R h k else ⊥

/-- Column `C` of key `k`'s values. -/
def val (R C k : ℕ) : EReal := Q (keyRow R k) (1024 + C)

/-- The attention's result in row `R`, column `C`. -/
def attn (R C : ℕ) : EReal :=
  Ideal.div (num (sc Q G R (C / 128)) (val Q R C) 4096) (den (sc Q G R (C / 128)) 4096)

variable {Q G} (hQ : ∀ R k, k < 1024 → IsReal (Q R k)) (hG : ∀ R k, IsReal (G R k))
include hQ hG

theorem score_real (R : ℕ) {h : ℕ} (hh : h < 4) (k : ℕ) : IsReal (score Q G R h k) :=
  (((IsReal.sum _ _ fun d _ => (hQ _ _ (by omega)).mul (hQ _ _ (by omega))).mul eighth_real).add (hG _ _)).sub (hG _ _)

theorem sc_zero (R : ℕ) {h : ℕ} (hh : h < 4) : IsReal (sc Q G R h 0) := by
  unfold sc; rw [if_pos (Nat.zero_le _)]; exact score_real hQ hG R hh 0

theorem sc_top (R : ℕ) {h : ℕ} (hh : h < 4) (k : ℕ) : sc Q G R h k ≠ ⊤ := by
  unfold sc
  split
  · obtain ⟨r, e⟩ := score_real hQ hG R hh k
    rw [e]; exact EReal.coe_ne_top r
  · exact bot_ne_top

/-- The first `n` keys are enough, if the query's own is among them. -/
theorem attn_of_le (R C n : ℕ) (hC : C < 512) (hn : R % 4096 < n) (hN : n ≤ 4096) :
    Ideal.div (num (sc Q G R (C / 128)) (val Q R C) n) (den (sc Q G R (C / 128)) n) = attn Q G R C := by
  obtain ⟨_, hd, hv⟩ := extend (S := sc Q G R (C / 128)) (val Q R C) (sc_zero hQ hG R (by omega)) (sc_top hQ hG R (by omega)) (n := n) (N := 4096)
    (by omega) hN fun k hk => by unfold sc; rw [if_neg (by omega)]
  unfold attn
  rw [hd, hv]

/-- The weights normalised first. -/
theorem attn_normalised (R C : ℕ) (hC : C < 512) :
    ∑ k : Fin 4096, val Q R C k.val * Ideal.div (wt (sc Q G R (C / 128)) 4096 k.val) (den (sc Q G R (C / 128)) 4096)
      = attn Q G R C := by
  rw [← Finset.sum_range fun k => val Q R C k * Ideal.div (wt (sc Q G R (C / 128)) 4096 k) (den (sc Q G R (C / 128)) 4096)]
  exact normalised _ (sc_zero hQ hG R (by omega)) (sc_top hQ hG R (by omega)) (by decide)

end Cert.Attn

end
-- ==== Proof.AttnValue.lean ====
/-
  What the attention kernel's result array holds at an index, where the gate sums repeat over each head's lanes and
  sublanes and every number is real.
-/
module

public import proofs.«01_k».proof.Proof.AttnLoop
public import proofs.«01_k».proof.Proof.AttnMath

@[expose] public section

set_option maxRecDepth 16384

noncomputable section

namespace Cert.KernelIdeal.Attn

open Idealize.ShloMosaic Idealize.ShloMosaic.TcCoe Idealize.SL.Sem
open Cert.KernelIdeal Cert.KernelIdeal.Gen Cert.KernelIdeal.Value Cert.Online

variable (m : (ℓ : Loc nD τ sig) → Buf (Elt Ideal) ℓ)

/-! ## The arguments as tables -/

/-- Queries, keys and values. -/
def Q (c : Dev nD) (R k : ℕ) : EReal :=
  m ((c : Thread nD τ).loc main_arg0)
    (ix2 (⟨R % 16384, Nat.mod_lt _ (by decide)⟩ : Fin 16384) (⟨k % 1536, Nat.mod_lt _ (by decide)⟩ : Fin 1536))

/-- Summed gates, by rows. -/
def G (c : Dev nD) (R k : ℕ) : EReal :=
  m ((c : Thread nD τ).loc main_arg1)
    (ix2 (⟨R % 16384, Nat.mod_lt _ (by decide)⟩ : Fin 16384) (⟨k % 512, Nat.mod_lt _ (by decide)⟩ : Fin 512))

/-- Summed gates, by columns. -/
def H (c : Dev nD) (b s k : ℕ) : EReal :=
  m ((c : Thread nD τ).loc main_arg2)
    (ix3 (⟨b % 4, Nat.mod_lt _ (by decide)⟩ : Fin 4) (⟨s % 32, Nat.mod_lt _ (by decide)⟩ : Fin 32)
      (⟨k % 4096, Nat.mod_lt _ (by decide)⟩ : Fin 4096))

/-! ## The blocks that a grid point reads -/

theorem idx : ∀ t : Fin cfg0.N, win0_0.index t = ![t.val / 32 * 8 + t.val % 8, t.val / 8 % 4]
    ∧ win0_1.index t = ![t.val / 32, 4 + t.val / 8 % 4] ∧ win0_2.index t = ![t.val / 32, 8 + t.val / 8 % 4]
    ∧ win0_3.index t = ![t.val / 32 * 8 + t.val % 8, t.val / 8 % 4] ∧ win0_4.index t = ![t.val / 32, t.val / 8 % 4, 0]
    ∧ win0_5.index t = ![t.val / 32 * 8 + t.val % 8, t.val / 8 % 4] :=
  (by decide +kernel : ∀ t : Fin grid0.N, _)

theorem t_lt (t : Fin cfg0.N) : t.val < 128 := lt_of_lt_of_eq t.isLt (show cfg0.N = 128 from N_0)

theorem blk0 (c : Dev nD) (t : Fin cfg0.N) (r : Fin 512) (d : Fin 128) :
    (iblk m c 0 t (ix2 r d) : EReal) = Q m c ((t.val / 32 * 8 + t.val % 8) * 512 + r.val) (t.val / 8 % 4 * 128 + d.val) := by
  have := t_lt t
  have e : (iblk m c 0 t (ix2 r d) : EReal) = m ((c : Thread nD τ).loc main_arg0)
      (ix2 (⟨(t.val / 32 * 8 + t.val % 8) * 512 + r.val, by omega⟩ : Fin 16384) (⟨t.val / 8 % 4 * 128 + d.val, by omega⟩ : Fin 1536)) := by
    blk_ext! [iblk, V, idx t]
  rw [e]
  exact congrArg₂ (fun a b => m ((c : Thread nD τ).loc main_arg0) (ix2 a b)) (Fin.ext (by dsimp only; omega)) (Fin.ext (by dsimp only; omega))

theorem blk1 (c : Dev nD) (t : Fin cfg0.N) (k : Fin 4096) (d : Fin 128) :
    (iblk m c 1 t (ix2 k d) : EReal) = Q m c (t.val / 32 * 4096 + k.val) ((4 + t.val / 8 % 4) * 128 + d.val) := by
  have := t_lt t
  have e : (iblk m c 1 t (ix2 k d) : EReal) = m ((c : Thread nD τ).loc main_arg0)
      (ix2 (⟨t.val / 32 * 4096 + k.val, by omega⟩ : Fin 16384) (⟨(4 + t.val / 8 % 4) * 128 + d.val, by omega⟩ : Fin 1536)) := by
    blk_ext! [iblk, V, idx t]
  rw [e]
  exact congrArg₂ (fun a b => m ((c : Thread nD τ).loc main_arg0) (ix2 a b)) (Fin.ext (by dsimp only; omega)) (Fin.ext (by dsimp only; omega))

theorem blk2 (c : Dev nD) (t : Fin cfg0.N) (k : Fin 4096) (d : Fin 128) :
    (iblk m c 2 t (ix2 k d) : EReal) = Q m c (t.val / 32 * 4096 + k.val) ((8 + t.val / 8 % 4) * 128 + d.val) := by
  have := t_lt t
  have e : (iblk m c 2 t (ix2 k d) : EReal) = m ((c : Thread nD τ).loc main_arg0)
      (ix2 (⟨t.val / 32 * 4096 + k.val, by omega⟩ : Fin 16384) (⟨(8 + t.val / 8 % 4) * 128 + d.val, by omega⟩ : Fin 1536)) := by
    blk_ext! [iblk, V, idx t]
  rw [e]
  exact congrArg₂ (fun a b => m ((c : Thread nD τ).loc main_arg0) (ix2 a b)) (Fin.ext (by dsimp only; omega)) (Fin.ext (by dsimp only; omega))

theorem blk3 (c : Dev nD) (t : Fin cfg0.N) (r : Fin 512) (d : Fin 128) :
    (iblk m c 3 t (ix2 r d) : EReal) = G m c ((t.val / 32 * 8 + t.val % 8) * 512 + r.val) (t.val / 8 % 4 * 128 + d.val) := by
  have := t_lt t
  have e : (iblk m c 3 t (ix2 r d) : EReal) = m ((c : Thread nD τ).loc main_arg1)
      (ix2 (⟨(t.val / 32 * 8 + t.val % 8) * 512 + r.val, by omega⟩ : Fin 16384) (⟨t.val / 8 % 4 * 128 + d.val, by omega⟩ : Fin 512)) := by
    blk_ext! [iblk, V, idx t]
  rw [e]
  exact congrArg₂ (fun a b => m ((c : Thread nD τ).loc main_arg1) (ix2 a b)) (Fin.ext (by dsimp only; omega)) (Fin.ext (by dsimp only; omega))

theorem blk4 (c : Dev nD) (t : Fin cfg0.N) (s : Fin 8) (k : Fin 4096) :
    (iblk m c 4 t (ix3 (0 : Fin 1) s k) : EReal) = H m c (t.val / 32) (t.val / 8 % 4 * 8 + s.val) k.val := by
  have := t_lt t
  have e : (iblk m c 4 t (ix3 (0 : Fin 1) s k) : EReal) = m ((c : Thread nD τ).loc main_arg2)
      (ix3 (⟨t.val / 32, by omega⟩ : Fin 4) (⟨t.val / 8 % 4 * 8 + s.val, by omega⟩ : Fin 32) k) := by
    blk_ext! [iblk, V, idx t]
  rw [e]
  have e0 : (⟨t.val / 32, by omega⟩ : Fin 4) = ⟨t.val / 32 % 4, Nat.mod_lt _ (by decide)⟩ := Fin.ext (by dsimp only; omega)
  have e1 : (⟨t.val / 8 % 4 * 8 + s.val, by omega⟩ : Fin 32) = ⟨(t.val / 8 % 4 * 8 + s.val) % 32, Nat.mod_lt _ (by decide)⟩ :=
    Fin.ext (by dsimp only; omega)
  have e2 : k = ⟨k.val % 4096, Nat.mod_lt _ (by decide)⟩ := Fin.ext (by dsimp only; omega)
  unfold H
  rw [← e0, ← e1, ← e2]

/-! ## The array -/

/-- What the arguments are assumed to be. -/
structure Repeated (c : Dev nD) : Prop where
  lanes : ∀ R k, G m c R k = G m c R (k % 512 / 128 * 128)
  rows : ∀ b s k, H m c b s k = G m c (b % 4 * 4096 + k % 4096) (s % 32 / 8 * 128)
  realQ : ∀ R k, k < 1024 → IsReal (Q m c R k)
  realG : ∀ R k, IsReal (G m c R k)

variable {m}

/-- A grid point's block. -/
theorem block (c : Dev nD) (P : Repeated m c) (t : Fin cfg0.N) (r : Fin 512) (l : Fin 128) :
    (outsAt0 m c t (ix2 r l) : EReal)
      = Cert.Attn.attn (Q m c) (G m c) ((t.val / 32 * 8 + t.val % 8) * 512 + r.val) (t.val / 8 % 4 * 128 + l.val) := by
  have ht := t_lt t
  have hC : (t.val / 8 % 4 * 128 + l.val) / 128 = t.val / 8 % 4 := by omega
  have hR : ((t.val / 32 * 8 + t.val % 8) * 512 + r.val) % 4096 = 512 * (t.val % 8) + r.val := by omega
  rw [← Cert.Attn.attn_of_le P.realQ P.realG _ _ (512 * (t.val % 8) + 512) (by omega) (by omega) (by omega), hC]
  refine out_apply m c t r l
    (Cert.Attn.score (Q m c) (G m c) ((t.val / 32 * 8 + t.val % 8) * 512 + r.val) (t.val / 8 % 4)) _ _
    (Cert.Attn.sc_zero P.realQ P.realG _ (by omega)) (Cert.Attn.sc_top P.realQ P.realG _ (by omega)) (fun k => ?_) (fun n hn k g hk hg c' => ?_)
    (fun n hn c' => ?_)
  · unfold Cert.Attn.sc; rw [hR]
  · rw [pay6_apply, hg, blk3, blk4, P.lanes, P.rows]
    simp only [hk, blk0, blk1]
    have h1 : Cert.Attn.keyRow ((t.val / 32 * 8 + t.val % 8) * 512 + r.val) (512 * n + c'.val) = t.val / 32 * 4096 + (keyIx n c').val := by
      unfold Cert.Attn.keyRow keyIx; dsimp only; omega
    unfold Cert.Attn.score
    rw [h1]
    congr 1
    · congr 1
      · congr 1
        refine Finset.sum_congr rfl fun d _ => ?_
        congr 2 <;> omega
      · congr 1; omega
    · congr 1
      · unfold keyIx; dsimp only; omega
      · omega
  · rw [blk2]
    unfold Cert.Attn.val
    congr 1
    · unfold Cert.Attn.keyRow keyIx; dsimp only; omega
    · omega

theorem final (c : Dev nD) (P : Repeated m c) (R : Fin 16384) (C : Fin 512) :
    ((dats m 0 c).arrAt 5 cfg0.N (ix2 R C) : EReal) = Cert.Attn.attn (Q m c) (G m c) R.val C.val := by
  have key : (dats m 0 c).arrAt 5 cfg0.N = fun x : S16384x512.Idx => (Cert.Attn.attn (Q m c) (G m c) (x 0).val (x 1).val : EReal) := by
    refine (dats m 0 c).arrAt_eq_of_covers 5 _ (by decide +kernel) fun t hf y => ?_
    obtain ⟨r, l, rfl⟩ : ∃ (r : Fin 512) (l : Fin 128), y = ix2 r l := ⟨y 0, y 1, eq_ix2 y⟩
    have e0 : ((((cfg0.win 5).blk t).view.emb (ix2 r l)) 0).val = (t.val / 32 * 8 + t.val % 8) * 512 + r.val := by
      blk_simp [idx t]
    have e1 : ((((cfg0.win 5).blk t).view.emb (ix2 r l)) 1).val = t.val / 8 % 4 * 128 + l.val := by
      blk_simp [idx t]
    rw [e0, e1]
    blk_simp
    rw [after0_5]
    have e := block c P t r l
    rw [e]
  rw [key]; rfl

end Cert.KernelIdeal.Attn

end
-- ==== Proof.AttnRef.lean ====
/-
  What the attention's reference computes at an index: the masked scores, their weights over the whole row, and the
  weighted values, as sums of extended reals.
-/
module

public import proofs.«01_k».proof.Proof.Gen.ReferenceIdeal.Run
public import proofs.«01_k».proof.Proof.AttnMath
public import Idealize.ShloMosaic.Lib.Pointwise
public import Idealize.ShloMosaic.Lib.Tactic
public import Idealize.ShloMosaic.Lib.WordCmp

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen Cert.ReferenceIdeal.Value

/-! ## The operands by sequence, position and head -/

/-- A third of the projected columns by heads, as printed. -/
def queries (x : FVec Ideal S16384x1536 .bf16) : FVec Ideal S4x4096x4x128 .f32 :=
  extf .f32 (shapeCast S4x4096x4x128 (extractStridedSlice S16384x512 ![0, 0] x slices_S16384x1536_S16384x512_0_0)
    shapeCasts_S16384x512_S4x4096x4x128 : FVec Ideal S4x4096x4x128 .bf16) bitsLt_bf16_f32

def keys (x : FVec Ideal S16384x1536 .bf16) : FVec Ideal S4x4096x4x128 .f32 :=
  extf .f32 (shapeCast S4x4096x4x128 (extractStridedSlice S16384x512 ![0, 512] x slices_S16384x1536_S16384x512_0_512)
    shapeCasts_S16384x512_S4x4096x4x128 : FVec Ideal S4x4096x4x128 .bf16) bitsLt_bf16_f32

def values (x : FVec Ideal S16384x1536 .bf16) : FVec Ideal S4x4096x4x128 .f32 :=
  extf .f32 (shapeCast S4x4096x4x128 (extractStridedSlice S16384x512 ![0, 1024] x slices_S16384x1536_S16384x512_0_1024)
    shapeCasts_S16384x512_S4x4096x4x128 : FVec Ideal S4x4096x4x128 .bf16) bitsLt_bf16_f32

/-- Each head's summed gates, as printed. -/
def gates (g : FVec Ideal S16384x512 .f32) : FVec Ideal S4x4x4096 .f32 :=
  transpose S4x4x4096 [0, 2, 1] (shapeCast S4x4096x4 (extractStridedSlice S4x4096x4x1 ![0, 0, 0, 0]
    (shapeCast S4x4096x4x128 g shapeCasts_S16384x512_S4x4096x4x128) slices_S4x4096x4x128_S4x4096x4x1_0_0_0_0)
    shapeCasts_S4x4096x4x1_S4x4096x4) transposes_S4x4096x4_S4x4x4096_0_2_1

section Operands
variable (x : FVec Ideal S16384x1536 .bf16) (g : FVec Ideal S16384x512 .f32) (b h : Fin 4) (k : Fin 4096) (d : Fin 128)

theorem queries_apply : queries x (ix4 b k h d)
    = x (ix2 (⟨b.val * 4096 + k.val, by omega⟩ : Fin 16384) (⟨h.val * 128 + d.val, by omega⟩ : Fin 1536)) := by
  pointwise [queries]

theorem keys_apply : keys x (ix4 b k h d)
    = x (ix2 (⟨b.val * 4096 + k.val, by omega⟩ : Fin 16384) (⟨512 + (h.val * 128 + d.val), by omega⟩ : Fin 1536)) := by
  pointwise [keys]

theorem values_apply : values x (ix4 b k h d)
    = x (ix2 (⟨b.val * 4096 + k.val, by omega⟩ : Fin 16384) (⟨1024 + (h.val * 128 + d.val), by omega⟩ : Fin 1536)) := by
  pointwise [values]

theorem gates_apply : gates g (ix3 b h k)
    = g (ix2 (⟨b.val * 4096 + k.val, by omega⟩ : Fin 16384) (⟨h.val * 128, by omega⟩ : Fin 512)) := by
  pointwise [gates]

end Operands

/-! ## Scores -/

/-- The scores, as printed. -/
def scores (q k : FVec Ideal S4x4096x4x128 .f32) (c : FVec Ideal S4x4x4096 .f32) : FVec Ideal S4x4x4096x4096 .f32 :=
  subf (addf (mulf (Host.dotGeneral dot_S4x4096x4x128_S4x4096x4x128_S4x4x4096x4096_3_3_1_1_02_02 none q k)
      (broadcastInDim S4x4x4096x4096 ![] bcast_S_S4x4x4096x4096 (constant S_ .f32 0x3E000000#32)))
      (broadcastInDim S4x4x4096x4096 ![0, 1, 2, 3] bcast_S4x4x4096x1_S4x4x4096x4096_0_1_2_3
        (broadcastInDim S4x4x4096x1 ![0, 1, 2] bcast_S4x4x4096_S4x4x4096x1_0_1_2 c)))
    (broadcastInDim S4x4x4096x4096 ![0, 1, 2, 3] bcast_S4x4x1x4096_S4x4x4096x4096_0_1_2_3
      (broadcastInDim S4x4x1x4096 ![0, 1, 3] bcast_S4x4x4096_S4x4x1x4096_0_1_3 c))

/-- The scores with the keys after the query masked, as printed. -/
def masked (s : FVec Ideal S4x4x4096x4096 .f32) : FVec Ideal S4x4x4096x4096 .f32 :=
  select (broadcastInDim S4x4x4096x4096 ![2, 3] bcast_S4096x4096_S4x4x4096x4096_2_3
      (cmpi .sle (broadcastInDim S4096x4096 ![0, 1] bcast_S1x4096_S4096x4096_0_1
          (broadcastInDim S1x4096 ![1] bcast_S4096_S1x4096_1 (iotaInDim S4096 32 0)))
        (broadcastInDim S4096x4096 ![0, 1] bcast_S4096x1_S4096x4096_0_1
          (broadcastInDim S4096x1 ![0] bcast_S4096_S4096x1_0 (iotaInDim S4096 32 0))))) s
    (broadcastInDim S4x4x4096x4096 ![] bcast_S_S4x4x4096x4096 (id (constant S_ .f32 0xFF800000#32)))

/-- Each row's greatest score, as printed. -/
def reduced (s : FVec Ideal S4x4x4096x4096 .f32) : FVec Ideal S4x4x4096 .f32 :=
  Host.reduce FloatOps.maximumf s (constant S_ .f32 0xFF800000#32) reducesTo_S4x4x4096x4096_S4x4x4096_d3 h_S_

/-- The same, no less than negative infinity, as printed. -/
def greatest (u : FVec Ideal S4x4x4096 .f32) : FVec Ideal S4x4x4096 .f32 :=
  maximumf (broadcastInDim S4x4x4096 ![] bcast_S_S4x4x4096 (constant S_ .f32 0xFF800000#32)) u

/-- The weights, as printed. -/
def weights (s : FVec Ideal S4x4x4096x4096 .f32) (t : FVec Ideal S4x4x4096 .f32) : FVec Ideal S4x4x4096x4096 .f32 :=
  Host.exp (subf s (broadcastInDim S4x4x4096x4096 ![0, 1, 2, 3] bcast_S4x4x4096x1_S4x4x4096x4096_0_1_2_3
    (broadcastInDim S4x4x4096x1 ![0, 1, 2] bcast_S4x4x4096_S4x4x4096x1_0_1_2 t)))

/-- The weights over their sums, as printed. -/
def shares (w : FVec Ideal S4x4x4096x4096 .f32) : FVec Ideal S4x4x4096x4096 .f32 :=
  Host.divf w (broadcastInDim S4x4x4096x4096 ![0, 1, 2, 3] bcast_S4x4x4096x1_S4x4x4096x4096_0_1_2_3
    (broadcastInDim S4x4x4096x1 ![0, 1, 2] bcast_S4x4x4096_S4x4x4096x1_0_1_2
      (Host.reduceAdd w (constant S_ .f32 0x00000000#32) reducesTo_S4x4x4096x4096_S4x4x4096_d3 h_S_)))

/-- The weighted values laid back by rows, as printed. -/
def mixed (v : FVec Ideal S4x4096x4x128 .f32) (p : FVec Ideal S4x4x4096x4096 .f32) : FVec Ideal S16384x512 .f32 :=
  shapeCast S16384x512 (transpose S4x4096x4x128 [0, 3, 1, 2]
    (Host.dotGeneral dot_S4x4096x4x128_S4x4x4096x4096_S4x4x128x4096_1_3_3_2_02_01 none v p : FVec Ideal S4x4x128x4096 .f32)
    transposes_S4x4x128x4096_S4x4096x4x128_0_3_1_2) shapeCasts_S4x4096x4x128_S16384x512

theorem ninf : Ideal.ofBits .f32 0xFF800000#32 = (⊥ : EReal) := by simp [Ideal.ofBits, Ideal.ieee]

section Stages
variable (q k v : FVec Ideal S4x4096x4x128 .f32) (c t : FVec Ideal S4x4x4096 .f32) (s w : FVec Ideal S4x4x4096x4096 .f32)
  (b h : Fin 4) (i j : Fin 4096)

theorem scores_apply : scores q k c (ix4 b h i j)
    = ((∑ d : Fin 128, q (ix4 b i h d) * k (ix4 b j h d)) * Cert.Attn.eighth + c (ix3 b h i) - c (ix3 b h j) : EReal) := by
  pointwise [scores, Cert.Attn.eighth]

theorem masked_apply : masked s (ix4 b h i j) = (if j.val ≤ i.val then s (ix4 b h i j) else ⊥ : EReal) := by
  pointwise [masked]
  rw [WordCmp.cmpi_sle_ofNat (by have := i.isLt; omega) (by have := j.isLt; omega)]
  by_cases e : j.val ≤ i.val
  · rw [if_pos e, decide_eq_true e]; rfl
  · rw [if_neg e, decide_eq_false e]; exact ninf

theorem reduced_apply : reduced s (ix3 b h i)
    = (Finset.univ.fold max (Ideal.ofBits .f32 0xFF800000#32) fun j : Fin 4096 => s (ix4 b h i j) : EReal) := by
  pointwise [reduced]

theorem greatest_apply : greatest t (ix3 b h i) = (t (ix3 b h i) : EReal) := by
  have e : greatest t (ix3 b h i) = (max (Ideal.ofBits .f32 0xFF800000#32) (t (ix3 b h i)) : EReal) := by
    pointwise [greatest]
  rw [e, ninf]
  exact max_eq_right bot_le

theorem weights_apply : weights s t (ix4 b h i j) = Ideal.exp (s (ix4 b h i j) - t (ix3 b h i) : EReal) := by
  pointwise [weights]

theorem shares_apply : shares w (ix4 b h i j)
    = Ideal.div (w (ix4 b h i j) : EReal) (∑ j : Fin 4096, w (ix4 b h i j)) := by
  pointwise [shares]

theorem mixed_apply (R : Fin 16384) (C : Fin 512) : mixed v w (ix2 R C)
    = (∑ j : Fin 4096, v (ix4 (⟨R.val / 4096, by omega⟩ : Fin 4) j (⟨C.val / 128, by omega⟩ : Fin 4) (⟨C.val % 128, by omega⟩ : Fin 128))
        * w (ix4 (⟨R.val / 4096, by omega⟩ : Fin 4) (⟨C.val / 128, by omega⟩ : Fin 4) (⟨R.val % 4096, by omega⟩ : Fin 4096) j) : EReal) := by
  pointwise [mixed]

end Stages

/-! ## The result -/

/-- The reference's result, by stages. -/
def result (x : FVec Ideal S16384x1536 .bf16) (g : FVec Ideal S16384x512 .f32) : FVec Ideal S16384x512 .f32 :=
  mixed (values x) (shares (weights (masked (scores (queries x) (keys x) (gates g)))
    (greatest (reduced (masked (scores (queries x) (keys x) (gates g)))))))

theorem out_eq (m : (ℓ : Loc nD τ sig) → Buf (Elt Ideal) ℓ) (c : Dev nD) :
    res_out0 m c = result (m ((c.tc : Thread nD τ).loc main_arg0)) (m ((c.tc : Thread nD τ).loc main_arg1)) := rfl

/-- The arguments as tables. -/
def Q (x : FVec Ideal S16384x1536 .bf16) (R k : ℕ) : EReal :=
  x (ix2 (⟨R % 16384, Nat.mod_lt _ (by decide)⟩ : Fin 16384) (⟨k % 1536, Nat.mod_lt _ (by decide)⟩ : Fin 1536))

def G (g : FVec Ideal S16384x512 .f32) (R k : ℕ) : EReal :=
  g (ix2 (⟨R % 16384, Nat.mod_lt _ (by decide)⟩ : Fin 16384) (⟨k % 512, Nat.mod_lt _ (by decide)⟩ : Fin 512))

section Result
variable (x : FVec Ideal S16384x1536 .bf16) (g : FVec Ideal S16384x512 .f32)

theorem Q_eq (R k R' k' : ℕ) (hR : R < 16384) (hk : k < 1536) (e : R = R') (e' : k = k') :
    (x (ix2 (⟨R, hR⟩ : Fin 16384) (⟨k, hk⟩ : Fin 1536)) : EReal) = Q x R' k' := by
  subst e e'
  exact congrArg₂ (fun a b => x (ix2 a b)) (Fin.ext (Nat.mod_eq_of_lt hR).symm) (Fin.ext (Nat.mod_eq_of_lt hk).symm)

theorem G_eq (R k R' k' : ℕ) (hR : R < 16384) (hk : k < 512) (e : R = R') (e' : k = k') :
    (g (ix2 (⟨R, hR⟩ : Fin 16384) (⟨k, hk⟩ : Fin 512)) : EReal) = G g R' k' := by
  subst e e'
  exact congrArg₂ (fun a b => g (ix2 a b)) (Fin.ext (Nat.mod_eq_of_lt hR).symm) (Fin.ext (Nat.mod_eq_of_lt hk).symm)

/-- A masked score. -/
theorem masked_score (R : Fin 16384) (h : Fin 4) (j : Fin 4096) :
    (masked (scores (queries x) (keys x) (gates g))
        (ix4 (⟨R.val / 4096, by omega⟩ : Fin 4) h (⟨R.val % 4096, by omega⟩ : Fin 4096) j) : EReal)
      = Cert.Attn.sc (Q x) (G g) R.val h.val j.val := by
  rw [masked_apply, scores_apply, gates_apply, gates_apply]
  simp only [queries_apply, keys_apply]
  unfold Cert.Attn.sc Cert.Attn.score
  refine if_congr Iff.rfl ?_ rfl
  refine congrArg₂ (fun a b : EReal => a - b) (congrArg₂ (fun a b : EReal => a + b) (congrArg (fun a : EReal => a * Cert.Attn.eighth)
    (Finset.sum_congr rfl fun d _ => congrArg₂ (fun a b : EReal => a * b) ?_ ?_)) ?_) ?_
  · exact Q_eq x _ _ _ _ _ _ (by omega) (by omega)
  · exact Q_eq x _ _ _ _ _ _ (by unfold Cert.Attn.keyRow; omega) (by omega)
  · exact G_eq g _ _ _ _ _ _ (by omega) (by omega)
  · exact G_eq g _ _ _ _ _ _ (by unfold Cert.Attn.keyRow; omega) (by omega)

theorem result_apply (hQ : ∀ R k, k < 1024 → Cert.Online.IsReal (Q x R k)) (hG : ∀ R k, Cert.Online.IsReal (G g R k))
    (R : Fin 16384) (C : Fin 512) : (result x g (ix2 R C) : EReal) = Cert.Attn.attn (Q x) (G g) R.val C.val := by
  have ht : (greatest (reduced (masked (scores (queries x) (keys x) (gates g))))
      (ix3 (⟨R.val / 4096, by omega⟩ : Fin 4) (⟨C.val / 128, by omega⟩ : Fin 4) (⟨R.val % 4096, by omega⟩ : Fin 4096)) : EReal)
      = Cert.Online.top (Cert.Attn.sc (Q x) (G g) R.val (C.val / 128)) 4096 := by
    rw [greatest_apply, reduced_apply, ninf]
    simp only [masked_score]
    have e := Cert.Online.top_add (Cert.Attn.sc (Q x) (G g) R.val (C.val / 128)) 0 4096
    rw [Cert.Online.top_zero] at e
    simp only [Nat.zero_add] at e
    exact (max_eq_right bot_le).symm.trans e.symm
  have hw : ∀ j : Fin 4096, (weights (masked (scores (queries x) (keys x) (gates g)))
      (greatest (reduced (masked (scores (queries x) (keys x) (gates g)))))
      (ix4 (⟨R.val / 4096, by omega⟩ : Fin 4) (⟨C.val / 128, by omega⟩ : Fin 4) (⟨R.val % 4096, by omega⟩ : Fin 4096) j) : EReal)
      = Cert.Online.wt (Cert.Attn.sc (Q x) (G g) R.val (C.val / 128)) 4096 j.val := fun j => by
    rw [weights_apply, ht, masked_score]
    rfl
  have hd : ∑ j : Fin 4096, Cert.Online.wt (Cert.Attn.sc (Q x) (G g) R.val (C.val / 128)) 4096 j.val
      = Cert.Online.den (Cert.Attn.sc (Q x) (G g) R.val (C.val / 128)) 4096 :=
    (Finset.sum_range fun k => Cert.Online.wt (Cert.Attn.sc (Q x) (G g) R.val (C.val / 128)) 4096 k).symm
  rw [← Cert.Attn.attn_normalised hQ hG R.val C.val C.isLt]
  unfold result
  rw [mixed_apply]
  refine Finset.sum_congr rfl fun j _ => ?_
  rw [shares_apply, values_apply]
  simp only [hw]
  rw [hd]
  refine congrArg (fun a : EReal => a * _) ?_
  unfold Cert.Attn.val
  exact Q_eq x _ _ _ _ _ _ (by unfold Cert.Attn.keyRow; omega) (by omega)

end Result

end Cert.ReferenceIdeal.Ref

end
-- ==== Proof.AttnPre.lean ====
/-
  What the precondition of the attention claim says of the arguments' elements: the queries, the keys and the gate sums
  are real numbers, and the gate sums repeat over each head's lanes and sublanes.
-/
module

public import proofs.«01_k».proof.Defs
public import proofs.«01_k».proof.Proof.Gen.Pre_gates_repeated
public import proofs.«01_k».proof.Proof.AttnValue
public import Idealize.ShloMosaic.Lib.Pointwise

@[expose] public section

set_option maxRecDepth 16384

noncomputable section

namespace Cert.Pre_gates_repeated

open Idealize.ShloMosaic Idealize.ShloMosaic.TcCoe Cert.Online Cert.Pre_gates_repeated.Gen

/-! ## The arrays that it compares -/

def firstCols (x : FVec Ideal S16384x1536 .bf16) : FVec Ideal S16384x1024 .f32 :=
  (extf .f32 · Facts.bitsLt_bf16_f32) ((extractStridedSlice S16384x1024 ![0, 0] · Facts.slices_S16384x1536_S16384x1024_0_0) x)

def byHead (g : FVec Ideal S16384x512 .f32) : FVec Ideal S4x4096x4x128 .f32 :=
  shapeCast S4x4096x4x128 g Facts.shapeCasts_S16384x512_S4x4096x4x128

def firstLane (g : FVec Ideal S16384x512 .f32) : FVec Ideal S4x4096x4x1 .f32 :=
  (extractStridedSlice S4x4096x4x1 ![0, 0, 0, 0] · Facts.slices_S4x4096x4x128_S4x4096x4x1_0_0_0_0) (byHead g)

def laneOver (g : FVec Ideal S16384x512 .f32) : FVec Ideal S4x4096x4x128 .f32 :=
  broadcastInDim S4x4096x4x128 ![0, 1, 2, 3] Facts.bcast_S4x4096x4x1_S4x4096x4x128_0_1_2_3 (firstLane g)

def rowsByHead (r : FVec Ideal S4x32x4096 .f32) : FVec Ideal S4x4x8x4096 .f32 :=
  shapeCast S4x4x8x4096 r Facts.shapeCasts_S4x32x4096_S4x4x8x4096

def rowOver (g : FVec Ideal S16384x512 .f32) : FVec Ideal S4x4x8x4096 .f32 :=
  broadcastInDim S4x4x8x4096 ![0, 1, 2, 3] Facts.bcast_S4x4x1x4096_S4x4x8x4096_0_1_2_3
    ((transpose S4x4x1x4096 [0, 2, 3, 1] · Facts.transposes_S4x4096x4x1_S4x4x1x4096_0_2_3_1) (firstLane g))

theorem firstCols_apply (x : FVec Ideal S16384x1536 .bf16) (r : Fin 16384) (k : Fin 1024) :
    (firstCols x (ix2 r k) : EReal) = x (ix2 r (⟨k.val, by omega⟩ : Fin 1536)) := by
  pointwise [firstCols]

theorem byHead_apply (g : FVec Ideal S16384x512 .f32) (b : Fin 4) (i : Fin 4096) (h : Fin 4) (d : Fin 128) :
    (byHead g (ix4 b i h d) : EReal) = g (ix2 (⟨b.val * 4096 + i.val, by omega⟩ : Fin 16384) (⟨h.val * 128 + d.val, by omega⟩ : Fin 512)) := by
  pointwise [byHead]

theorem laneOver_apply (g : FVec Ideal S16384x512 .f32) (b : Fin 4) (i : Fin 4096) (h : Fin 4) (d : Fin 128) :
    (laneOver g (ix4 b i h d) : EReal) = g (ix2 (⟨b.val * 4096 + i.val, by omega⟩ : Fin 16384) (⟨h.val * 128, by omega⟩ : Fin 512)) := by
  pointwise [laneOver, firstLane, byHead]

theorem rowsByHead_apply (r : FVec Ideal S4x32x4096 .f32) (b : Fin 4) (h : Fin 4) (s : Fin 8) (i : Fin 4096) :
    (rowsByHead r (ix4 b h s i) : EReal) = r (ix3 b (⟨h.val * 8 + s.val, by omega⟩ : Fin 32) i) := by
  pointwise [rowsByHead]

theorem rowOver_apply (g : FVec Ideal S16384x512 .f32) (b : Fin 4) (h : Fin 4) (s : Fin 8) (i : Fin 4096) :
    (rowOver g (ix4 b h s i) : EReal) = g (ix2 (⟨b.val * 4096 + i.val, by omega⟩ : Fin 16384) (⟨h.val * 128, by omega⟩ : Fin 512)) := by
  pointwise [rowOver, firstLane, byHead]

/-! ## What the comparisons say -/

/-- A number whose absolute value is less than plus infinity is real. -/
theorem real_of_lt {x : EReal} (h : Ideal.cmp .olt (max x (-x)) (Ideal.ofBits .f32 0x7F800000#32) = 1#1) :
    IsReal x := by
  have h' := (Ideal.cmp_olt_eq_one _ _).mp h
  have e : (Ideal.ofBits .f32 0x7F800000#32 : EReal) = ⊤ := by simp [Ideal.ofBits, Ideal.ieee]
  refine IsReal.of_ne ?_ ?_
  · rintro rfl
    exact absurd (lt_of_le_of_lt (le_max_right _ _) h') (by rw [EReal.neg_bot]; exact not_lt.mpr le_top)
  · rintro rfl
    exact absurd (lt_of_le_of_lt (le_max_left _ _) h') (not_lt.mpr le_top)

theorem repeated (m : (ℓ : Loc Cert.KernelIdeal.nD Cert.KernelIdeal.τ Cert.KernelIdeal.sig) → Buf (Elt Ideal) ℓ)
    (hp : Cert.Pre_KernelIdeal_gates_repeated (hPre_gates_repeated := facts) m) (c : Dev Cert.KernelIdeal.nD) :
    Cert.KernelIdeal.Attn.Repeated m c := by
  obtain ⟨p0, p1, p2, p3⟩ := hp c
  have lane : ∀ (b : Fin 4) (i : Fin 4096) (h : Fin 4) (d : Fin 128),
      (byHead (m ((c.tc : Thread Cert.KernelIdeal.nD Cert.KernelIdeal.τ).loc Cert.KernelIdeal.main_arg1)) (ix4 b i h d) : EReal)
        = laneOver (m ((c.tc : Thread Cert.KernelIdeal.nD Cert.KernelIdeal.τ).loc Cert.KernelIdeal.main_arg1)) (ix4 b i h d) :=
    fun b i h d => (Ideal.cmp_oeq_eq_one _ _).mp (congrFun p2 (ix4 b i h d))
  have row : ∀ (b : Fin 4) (h : Fin 4) (s : Fin 8) (i : Fin 4096),
      (rowsByHead (m ((c.tc : Thread Cert.KernelIdeal.nD Cert.KernelIdeal.τ).loc Cert.KernelIdeal.main_arg2)) (ix4 b h s i) : EReal)
        = rowOver (m ((c.tc : Thread Cert.KernelIdeal.nD Cert.KernelIdeal.τ).loc Cert.KernelIdeal.main_arg1)) (ix4 b h s i) :=
    fun b h s i => (Ideal.cmp_oeq_eq_one _ _).mp (congrFun p3 (ix4 b h s i))
  simp only [byHead_apply, laneOver_apply] at lane
  simp only [rowsByHead_apply, rowOver_apply] at row
  constructor
  · intro R k
    refine Eq.trans ?_ ((lane ⟨R % 16384 / 4096, by omega⟩ ⟨R % 4096, by omega⟩ ⟨k % 512 / 128, by omega⟩ ⟨k % 128, by omega⟩).trans ?_)
    · exact congrArg₂ (fun a b => m ((c.tc : Thread Cert.KernelIdeal.nD Cert.KernelIdeal.τ).loc Cert.KernelIdeal.main_arg1) (ix2 a b))
        (Fin.ext (by dsimp only; omega)) (Fin.ext (by dsimp only; omega))
    · exact congrArg₂ (fun a b => m ((c.tc : Thread Cert.KernelIdeal.nD Cert.KernelIdeal.τ).loc Cert.KernelIdeal.main_arg1) (ix2 a b))
        (Fin.ext (by dsimp only; omega)) (Fin.ext (by dsimp only; omega))
  · intro b s k
    refine Eq.trans ?_ ((row ⟨b % 4, by omega⟩ ⟨s % 32 / 8, by omega⟩ ⟨s % 8, by omega⟩ ⟨k % 4096, by omega⟩).trans ?_)
    · exact congrArg (fun a => m ((c.tc : Thread Cert.KernelIdeal.nD Cert.KernelIdeal.τ).loc Cert.KernelIdeal.main_arg2) (ix3 _ a _))
        (Fin.ext (by dsimp only; omega))
    · exact congrArg₂ (fun a b => m ((c.tc : Thread Cert.KernelIdeal.nD Cert.KernelIdeal.τ).loc Cert.KernelIdeal.main_arg1) (ix2 a b))
        (Fin.ext (by dsimp only; omega)) (Fin.ext (by dsimp only; omega))
  · intro R k hk
    have e : IsReal (firstCols (m ((c.tc : Thread Cert.KernelIdeal.nD Cert.KernelIdeal.τ).loc Cert.KernelIdeal.main_arg0))
        (ix2 (⟨R % 16384, Nat.mod_lt _ (by decide)⟩ : Fin 16384) (⟨k, hk⟩ : Fin 1024))) :=
      real_of_lt (congrFun p0 _)
    rw [firstCols_apply] at e
    unfold Cert.KernelIdeal.Attn.Q
    have hk' : (⟨k % 1536, Nat.mod_lt _ (by decide)⟩ : Fin 1536) = ⟨k, by omega⟩ := Fin.ext (by dsimp only; omega)
    rw [hk']
    exact e
  · intro R k
    exact real_of_lt (congrFun p1 _)

end Cert.Pre_gates_repeated

end
-- ==== Proof.AttnClaim.lean ====
/-
  The attention call's claims: the frame of its reference, and that the kernel's array and the reference's array are the
  same function of the arguments where the gate sums are laid out as the call is given them.
-/
module

public import proofs.«01_k».proof.Defs
public import proofs.«01_k».proof.Proof.Gen.KernelIdeal.Frame
public import proofs.«01_k».proof.Proof.AttnValue
public import proofs.«01_k».proof.Proof.AttnRef
public import proofs.«01_k».proof.Proof.AttnPre
public import Idealize.ShloMosaic.Lib.Claim

@[expose] public section

noncomputable section

namespace Cert.Proof

open Idealize.ShloMosaic Idealize.ShloMosaic.TcCoe Idealize.SL.Sem

/-- The attention reference runs, leaves its arguments and uses no semaphore. -/
theorem attn_reference_frame :
    quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The attention kernel and its reference end with the same array. -/
theorem attn_algebraic : algebraic_KernelIdeal_ReferenceIdeal_pre_gates_repeated (hKernelIdeal := Cert.KernelIdeal.Gen.facts)
    (hReferenceIdeal := Cert.ReferenceIdeal.Gen.facts) (hPre_gates_repeated := Cert.Pre_gates_repeated.Gen.facts) := by
  pair_intro
  · run_from Cert.KernelIdeal.Value.run_blocks m g
  · run_from Cert.ReferenceIdeal.Value.run m' g'
    funext j
    obtain ⟨r, l, rfl⟩ : ∃ a b, j = ix2 a b := ⟨j 0, j 1, eq_ix2 j⟩
    have P := Cert.Pre_gates_repeated.repeated m hpre c
    refine (congrFun (Cert.ReferenceIdeal.Ref.out_eq m' c) (ix2 r l)).trans ?_
    obtain ⟨h0, h1, h2⟩ := hagree c
    rw [h0, h1]
    refine (Cert.ReferenceIdeal.Ref.result_apply _ _ P.realQ P.realG r l).trans ?_
    exact (Cert.KernelIdeal.Attn.final c P r l).symm

end Cert.Proof

end
-- ==== Proof.MlpFold.lean ====
/-
  What the feed-forward kernel's scratch arrays and its output hold, point by point, as vector terms: the
  generated case terms (reset, step, last step) read back as the payloads that the body stores.
-/
module

public import proofs.«01_k».proof.Proof.Gen.MlpIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.MlpIdeal.Fold

open Idealize.ShloMosaic Idealize.ShloMosaic.TcCoe Idealize.SL.Sem
open Cert.MlpIdeal Cert.MlpIdeal.Gen Cert.MlpIdeal.Value

variable {F : FTy → Type} [FloatOps F]
variable (m : (ℓ : Loc nD τ sig) → Buf (Elt F) ℓ)

/-- At the first of a run's eight points the kernel writes the normalised rows into the first scratch array. -/
theorem h_reset (c : Dev nD) (t : Fin cfg0.N) (h0 : t.val % 8 = 0) :
    (outsAt0 m c t.val t.isLt).2.1 = k0_pay1 (iblk m c 0 t) (iblk m c 1 t) := by
  rw [outsAt0_A m c t h0 (by omega)]
  funext j
  frame_out

/-- There it leaves the first block's product in the second scratch array, added to zero. -/
theorem acc_reset (c : Dev nD) (t : Fin cfg0.N) (h0 : t.val % 8 = 0) :
    (outsAt0 m c t.val t.isLt).2.2
      = k0_pay3 (k0_pay1 (iblk m c 0 t) (iblk m c 1 t)) (iblk m c 2 t) (k0_pay2 (F := F)) (iblk m c 3 t) := by
  rw [outsAt0_A m c t h0 (by omega)]
  funext j
  frame_out

/-- At every other point the normalised rows stay. -/
theorem h_step (c : Dev nD) (n : ℕ) (hn : n + 1 < cfg0.N) (h0 : ¬(n + 1) % 8 = 0) :
    (outsAt0 m c (n + 1) hn).2.1 = (outsAt0 m c n (by omega)).2.1 := by
  by_cases h1 : (n + 1) % 8 = 7
  · rw [outsAt0_C m c ⟨n + 1, hn⟩ h0 h1]; rfl
  · rw [outsAt0_B m c ⟨n + 1, hn⟩ h0 h1]; rfl

/-- At every other point the block's product is added to the second scratch array. -/
theorem acc_step (c : Dev nD) (n : ℕ) (hn : n + 1 < cfg0.N) (h0 : ¬(n + 1) % 8 = 0) :
    (outsAt0 m c (n + 1) hn).2.2
      = k0_pay3 (outsAt0 m c n (by omega)).2.1 (iblk m c 2 ⟨n + 1, hn⟩) (outsAt0 m c n (by omega)).2.2
          (iblk m c 3 ⟨n + 1, hn⟩) := by
  by_cases h1 : (n + 1) % 8 = 7
  · rw [outsAt0_C m c ⟨n + 1, hn⟩ h0 h1]
    funext j
    frame_out
    simp only [read_unread_whole]
    rfl
  · rw [outsAt0_B m c ⟨n + 1, hn⟩ h0 h1]
    funext j
    frame_out
    simp only [read_unread_whole]
    rfl

/-- At the last of a run's eight points the output block gets the residual sum, normalised. -/
theorem out_last (c : Dev nD) (t : Fin cfg0.N) (h1 : t.val % 8 = 7) :
    (outsAt0 m c t.val t.isLt).1
      = k0_pay4 (iblk m c 0 t) (outsAt0 m c t.val t.isLt).2.2 (iblk m c 4 t) := by
  rw [outsAt0_C m c t (by omega) h1]
  funext j
  frame_out

end Cert.MlpIdeal.Fold

end
-- ==== Proof.RowNorm.lean ====
/-
  The root-mean-square normalisation of a row, as extended reals, and the one difference between the kernels
  and the references in it: the kernels multiply the sum of squares by 1/1024, the references divide it by 1024.
-/
module

public import Idealize.ShloMosaic.Lib.IdealHost
public import Idealize.ShloMosaic.Lib.Pointwise

@[expose] public section

noncomputable section

namespace Cert.Rows

open Idealize.ShloMosaic

/-- The constant 1024 of the references. -/
theorem ofBits_1024 : Ideal.ofBits .f32 0x44800000#32 = (((1024 : ℝ)) : EReal) := by
  simp [Ideal.ofBits, Ideal.ieee, -EReal.coe_mul]; norm_num

/-- The constant 1/1024 of the kernels. -/
theorem ofBits_inv_1024 : Ideal.ofBits .f32 0x3A800000#32 = (((1 : ℝ) / 1024 : ℝ) : EReal) := by
  simp [Ideal.ofBits, Ideal.ieee, -EReal.coe_mul]; norm_num

/-- Dividing by 1024 is multiplying by 1/1024, at the infinities too. -/
theorem div_1024 (a : EReal) :
    Ideal.div a (Ideal.ofBits .f32 0x44800000#32) = a * Ideal.ofBits .f32 0x3A800000#32 := by
  rw [ofBits_1024, ofBits_inv_1024]
  exact Ideal.div_coe (by norm_num) a

/-- Entry `l` of the row `x` normalised by the root of its mean square and scaled by `g`. -/
def rowNorm (x g : Fin 1024 → EReal) (l : Fin 1024) : EReal :=
  x l * Ideal.rsqrt ((∑ k, x k * x k) * Ideal.ofBits .f32 0x3A800000#32 + Ideal.ofBits .f32 0x358637BD#32) * g l

/-- The row `x`, normalised, times one column `w` of a matrix. -/
def proj (x g w : Fin 1024 → EReal) : EReal := ∑ k, rowNorm x g k * w k

/-- The square of the positive part. -/
def sqRelu (a : EReal) : EReal := max a 0 * max a 0

/-- Entry `f` of the hidden row: the product of the row `h` with column `f`, its positive part squared. -/
def hid (h : Fin 1024 → EReal) (w : Fin 1024 → EReal) : EReal := sqRelu (∑ k, h k * w k)

/-- The row `x` of residuals with the feed-forward part added: `x` normalised, through the hidden layer, and
    through the second matrix. -/
def mlpResid (x g : Fin 1024 → EReal) (w1 : Fin 1024 → Fin 4096 → EReal) (w2 : Fin 4096 → Fin 1024 → EReal)
    (l : Fin 1024) : EReal :=
  x l + ∑ f, hid (rowNorm x g) (fun k => w1 k f) * w2 f l

/-- The last layer's feed-forward row: that sum, normalised once more. -/
def mlpRow (x g : Fin 1024 → EReal) (w1 : Fin 1024 → Fin 4096 → EReal) (w2 : Fin 4096 → Fin 1024 → EReal)
    (fg : Fin 1024 → EReal) : Fin 1024 → EReal :=
  rowNorm (mlpResid x g w1 w2) fg

end Cert.Rows

end
-- ==== Proof.MlpValue.lean ====
/-
  What the feed-forward kernel's result array holds at an index: the eight blocks of hidden units that a run of
  grid points adds up are the whole sum over the 4096 hidden units.
-/
module

public import proofs.«01_k».proof.Proof.MlpFold
public import proofs.«01_k».proof.Proof.RowNorm
public import Idealize.ShloMosaic.Lib.Pipeline.ValueKit
public import Idealize.ShloMosaic.Lib.Pointwise
public import Idealize.ShloMosaic.Lib.Tactic

@[expose] public section

set_option maxRecDepth 16384

noncomputable section

namespace Cert.MlpIdeal.Fold

open Idealize.ShloMosaic Idealize.ShloMosaic.TcCoe Idealize.SL.Sem
open Cert.MlpIdeal Cert.MlpIdeal.Gen Cert.MlpIdeal.Value

variable (m : (ℓ : Loc nD τ sig) → Buf (Elt Ideal) ℓ)

/-! ## The payloads at an index -/

theorem pay1_apply (x : Vec Ideal S1024x1024 .f32) (g : Vec Ideal S1x1024 .f32) (r l : Fin 1024) :
    k0_pay1 x g (ix2 r l) = Rows.rowNorm (fun k => x (ix2 r k)) (fun k => g (ix2 0 k)) l := by
  pointwise [k0_pay1, Rows.rowNorm]

theorem pay2_apply (r l : Fin 1024) : (k0_pay2 (F := Ideal)) (ix2 r l) = (0 : EReal) := by
  pointwise [k0_pay2]

theorem pay3_apply (h : Vec Ideal S1024x1024 .bf16) (w1 : Vec Ideal S1024x512 .bf16) (a : Vec Ideal S1024x1024 .f32)
    (w2 : Vec Ideal S512x1024 .bf16) (r l : Fin 1024) :
    k0_pay3 h w1 a w2 (ix2 r l)
      = (a (ix2 r l) + ∑ q : Fin 512, Rows.hid (fun k => h (ix2 r k)) (fun k => w1 (ix2 k q)) * w2 (ix2 q l) : EReal) := by
  pointwise [k0_pay3, Rows.hid, Rows.sqRelu]

theorem pay4_apply (x a : Vec Ideal S1024x1024 .f32) (g : Vec Ideal S1x1024 .f32) (r l : Fin 1024) :
    k0_pay4 x a g (ix2 r l)
      = Rows.rowNorm (fun k => (x (ix2 r k) + a (ix2 r k) : EReal)) (fun k => g (ix2 0 k)) l := by
  pointwise [k0_pay4, Rows.rowNorm]

/-! ## The blocks that a grid point reads -/

theorem idx : ∀ t : Fin cfg0.N, win0_0.index t = ![t.val / 8, 0] ∧ win0_1.index t = ![0, 0]
    ∧ win0_2.index t = ![0, t.val % 8] ∧ win0_3.index t = ![t.val % 8, 0] ∧ win0_4.index t = ![0, 0]
    ∧ win0_5.index t = ![t.val / 8, 0] :=
  (by decide +kernel : ∀ t : Fin grid0.N, _)

theorem div_lt (t : Fin cfg0.N) : t.val / 8 < 16 := by
  have := lt_of_lt_of_eq t.isLt (show cfg0.N = 128 from N_0); omega

theorem blk0 (c : Dev nD) (t : Fin cfg0.N) (r k : Fin 1024) :
    (iblk m c 0 t (ix2 r k) : EReal)
      = m ((c : Thread nD τ).loc main_arg0) (ix2 (⟨t.val / 8 * 1024 + r.val, by have := div_lt t; omega⟩ : Fin 16384) k) := by
  blk_ext! [iblk, V, idx t]

theorem blk1 (c : Dev nD) (t : Fin cfg0.N) (k : Fin 1024) :
    (iblk m c 1 t (ix2 (0 : Fin 1) k) : EReal) = m ((c : Thread nD τ).loc main_arg1) (ix1 k) := by
  blk_ext! [iblk, V, idx t]

theorem blk2 (c : Dev nD) (t : Fin cfg0.N) (k : Fin 1024) (q : Fin 512) :
    (iblk m c 2 t (ix2 k q) : EReal)
      = m ((c : Thread nD τ).loc main_arg2) (ix2 k (⟨t.val % 8 * 512 + q.val, by omega⟩ : Fin 4096)) := by
  blk_ext! [iblk, V, idx t]

theorem blk3 (c : Dev nD) (t : Fin cfg0.N) (q : Fin 512) (k : Fin 1024) :
    (iblk m c 3 t (ix2 q k) : EReal)
      = m ((c : Thread nD τ).loc main_arg3) (ix2 (⟨t.val % 8 * 512 + q.val, by omega⟩ : Fin 4096) k) := by
  blk_ext! [iblk, V, idx t]

theorem blk4 (c : Dev nD) (t : Fin cfg0.N) (k : Fin 1024) :
    (iblk m c 4 t (ix2 (0 : Fin 1) k) : EReal) = m ((c : Thread nD τ).loc main_arg4) (ix1 k) := by
  blk_ext! [iblk, V, idx t]

/-! ## The arrays after each point -/

/-- Row `r` of row block `b`, as a row of the whole array. -/
def rowIx (b : ℕ) (r : Fin 1024) : Fin 16384 := ⟨(b * 1024 + r.val) % 16384, Nat.mod_lt _ (by decide)⟩

/-- Hidden unit `q` of block `s` of hidden units. -/
def hidIx (s : ℕ) (q : Fin 512) : Fin 4096 := ⟨(s * 512 + q.val) % 4096, Nat.mod_lt _ (by decide)⟩

/-- The argument rows and matrices. -/
abbrev xRow (c : Dev nD) (i : Fin 16384) : Fin 1024 → EReal := fun k => m ((c : Thread nD τ).loc main_arg0) (ix2 i k)
abbrev gRow (c : Dev nD) : Fin 1024 → EReal := fun k => m ((c : Thread nD τ).loc main_arg1) (ix1 k)
abbrev w1At (c : Dev nD) : Fin 1024 → Fin 4096 → EReal := fun k f => m ((c : Thread nD τ).loc main_arg2) (ix2 k f)
abbrev w2At (c : Dev nD) : Fin 4096 → Fin 1024 → EReal := fun f k => m ((c : Thread nD τ).loc main_arg3) (ix2 f k)
abbrev fgRow (c : Dev nD) : Fin 1024 → EReal := fun k => m ((c : Thread nD τ).loc main_arg4) (ix1 k)

theorem blk0' (c : Dev nD) (t : Fin cfg0.N) (r k : Fin 1024) :
    (iblk m c 0 t (ix2 r k) : EReal) = xRow m c (rowIx (t.val / 8) r) k := by
  rw [blk0]
  have := div_lt t
  refine congrArg (fun i => xRow m c i k) (Fin.ext ?_)
  exact (Nat.mod_eq_of_lt (by omega)).symm

theorem blk2' (c : Dev nD) (t : Fin cfg0.N) (k : Fin 1024) (q : Fin 512) :
    (iblk m c 2 t (ix2 k q) : EReal) = w1At m c k (hidIx (t.val % 8) q) := by
  rw [blk2]
  refine congrArg (fun i => w1At m c k i) (Fin.ext ?_)
  exact (Nat.mod_eq_of_lt (by omega)).symm

theorem blk3' (c : Dev nD) (t : Fin cfg0.N) (q : Fin 512) (k : Fin 1024) :
    (iblk m c 3 t (ix2 q k) : EReal) = w2At m c (hidIx (t.val % 8) q) k := by
  rw [blk3]
  refine congrArg (fun i => w2At m c i k) (Fin.ext ?_)
  exact (Nat.mod_eq_of_lt (by omega)).symm

/-- After every point the first scratch array holds the normalised rows of the point's row block. -/
theorem h_at (c : Dev nD) : ∀ (n : ℕ) (hn : n < cfg0.N) (r l : Fin 1024),
    (outsAt0 m c n hn).2.1 (ix2 r l) = Rows.rowNorm (xRow m c (rowIx (n / 8) r)) (gRow m c) l := by
  intro n
  induction n with
  | zero =>
    intro hn r l
    rw [h_reset m c ⟨0, hn⟩ rfl, pay1_apply]
    simp only [blk0', blk1]
  | succ n ih =>
    intro hn r l
    by_cases h0 : (n + 1) % 8 = 0
    · rw [h_reset m c ⟨n + 1, hn⟩ h0, pay1_apply]
      simp only [blk0', blk1]
    · rw [h_step m c n hn h0, ih (by omega) r l, show (n + 1) / 8 = n / 8 by omega]

/-- What block `s` of the hidden units adds to entry `l` of row `r` of row block `b`. -/
def term (c : Dev nD) (r l : Fin 1024) (b s : ℕ) : EReal :=
  ∑ q : Fin 512, Rows.hid (Rows.rowNorm (xRow m c (rowIx b r)) (gRow m c)) (fun k => w1At m c k (hidIx s q))
    * w2At m c (hidIx s q) l

/-- After every point the second scratch array holds the sum of the blocks met so far in the run. -/
theorem acc_at (c : Dev nD) (t : Fin cfg0.N) (r l : Fin 1024) :
    ((outsAt0 m c t.val t.isLt).2.2 (ix2 r l) : EReal)
      = 0 + ∑ s ∈ Finset.range (t.val % 8 + 1), term m c r l (t.val / 8) s := by
  refine Pipeline.eq_sum_of_reset_step_divmod (M := EReal) (fun n h => (outsAt0 m c n h).2.2 (ix2 r l)) 8 0
    (term m c r l) (fun t h0 => ?_) (fun t h0 => ?_) t
  · rw [acc_reset m c t h0, pay3_apply, pay2_apply]
    simp only [pay1_apply, blk0', blk1, blk2', blk3']
    rfl
  · obtain ⟨n, hn⟩ := t
    obtain ⟨n, rfl⟩ : ∃ k, n = k + 1 := ⟨n - 1, by have : n ≠ 0 := (by rintro rfl; exact h0 rfl); omega⟩
    dsimp only
    rw [acc_step m c n hn h0, pay3_apply]
    have e : (n + 1) / 8 = n / 8 := by dsimp only at h0; omega
    simp only [h_at, blk2', blk3', term, e, Nat.add_sub_cancel]

/-- At the last point of a run that is the whole sum over the hidden units. -/
theorem acc_last (c : Dev nD) (t : Fin cfg0.N) (h7 : t.val % 8 = 7) (r l : Fin 1024) :
    ((outsAt0 m c t.val t.isLt).2.2 (ix2 r l) : EReal)
      = ∑ f : Fin 4096, Rows.hid (Rows.rowNorm (xRow m c (rowIx (t.val / 8) r)) (gRow m c)) (fun k => w1At m c k f)
          * w2At m c f l := by
  rw [acc_at, h7, zero_add, Finset.sum_range]
  refine Fin.sum_mul_add_congr (S := 8) (n := 512) fun s q hl => ?_
  have e : hidIx s.val q = ⟨s.val * 512 + q.val, hl⟩ := Fin.ext (Nat.mod_eq_of_lt hl)
  rw [e]

/-- What the last point of a run writes back. -/
theorem out_at (c : Dev nD) (t : Fin cfg0.N) (h7 : t.val % 8 = 7) (r l : Fin 1024) :
    (outsAt0 m c t.val t.isLt).1 (ix2 r l)
      = Rows.mlpRow (xRow m c (rowIx (t.val / 8) r)) (gRow m c) (w1At m c) (w2At m c) (fgRow m c) l := by
  rw [out_last m c t h7, pay4_apply]
  simp only [acc_last m c t h7, blk0', blk4]
  rfl

/-- The result array after the run. -/
theorem final (c : Dev nD) (i : Fin 16384) (l : Fin 1024) :
    (dats m 0 c).arrAt 5 cfg0.N (ix2 i l)
      = Rows.mlpRow (xRow m c i) (gRow m c) (w1At m c) (w2At m c) (fgRow m c) l := by
  have e : (dats m 0 c).arrAt 5 cfg0.N = fun j : S16384x1024.Idx =>
      Rows.mlpRow (xRow m c (j 0)) (gRow m c) (w1At m c) (w2At m c) (fgRow m c) (j 1) := by
    refine (dats m 0 c).arrAt_eq_of_covers 5 _ (by decide +kernel) fun t hf y => ?_
    have h7 : t.val % 8 = 7 := (flush0_5 t).mp hf
    obtain ⟨r, k, rfl⟩ : ∃ (a : Fin 1024) (b : Fin 1024), y = ix2 a b := ⟨y 0, y 1, eq_ix2 y⟩
    have hd := div_lt t
    have e0 : (((cfg0.win 5).blk t).view.emb (ix2 r k)) 0 = rowIx (t.val / 8) r := by
      apply Fin.ext
      blk_simp [idx t]
      show _ = (_ % 16384)
      rw [Nat.mod_eq_of_lt (by omega)]
    have e1 : (((cfg0.win 5).blk t).view.emb (ix2 r k)) 1 = k := by
      apply Fin.ext
      blk_simp [idx t]
    rw [e0, e1]
    blk_simp
    rw [after0_5]
    exact out_at m c t h7 r k
  rw [e]
  rfl

end Cert.MlpIdeal.Fold

end
-- ==== Proof.MlpRef.lean ====
/-
  What the feed-forward reference computes at an index: the row normalisation, the squared hidden row, the
  two products and the second normalisation, as sums of extended reals.
-/
module

public import proofs.«01_k».proof.Proof.Gen.MlpReferenceIdeal.Run
public import proofs.«01_k».proof.Proof.RowNorm
public import Idealize.ShloMosaic.Lib.Pointwise
public import Idealize.ShloMosaic.Lib.Tactic

@[expose] public section

set_option maxRecDepth 16384

noncomputable section

namespace Cert.MlpReferenceIdeal.Ref

open Idealize.ShloMosaic Idealize.ShloMosaic.TcCoe Idealize.SL.Sem
open Cert.MlpReferenceIdeal Cert.MlpReferenceIdeal.Gen Cert.MlpReferenceIdeal.Value

/-- The reference's row normalisation, as printed. -/
def norm (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 g))

/-- The reference's hidden layer, as printed: the product with the first matrix, its positive part squared. -/
def hidden (h : FVec Ideal S16384x1024 .f32) (w : FVec Ideal S1024x4096 .f32) : FVec Ideal S16384x4096 .f32 :=
  mulf (maximumf (Host.dotGeneral dot_S16384x1024_S1024x4096_S16384x4096_1_0_0_1_n_n none h w)
      (broadcastInDim S16384x4096 ![] bcast_S_S16384x4096 (constant S_ .f32 0x00000000#32)))
    (maximumf (Host.dotGeneral dot_S16384x1024_S1024x4096_S16384x4096_1_0_0_1_n_n none h w)
      (broadcastInDim S16384x4096 ![] bcast_S_S16384x4096 (constant S_ .f32 0x00000000#32)))

/-- The reference's residual sum, as printed. -/
def resid (x : FVec Ideal S16384x1024 .f32) (a : FVec Ideal S16384x4096 .f32) (w : FVec Ideal S4096x1024 .f32) :
    FVec Ideal S16384x1024 .f32 :=
  addf x (Host.dotGeneral dot_S16384x4096_S4096x1024_S16384x1024_1_0_0_1_n_n none a w)

theorem res_eq (m : (ℓ : Loc nD τ sig) → Buf (Elt Ideal) ℓ) (c : Dev nD) :
    res_out0 m c = norm (resid (m ((c.tc : Thread nD τ).loc main_arg0))
      (hidden (norm (m ((c.tc : Thread nD τ).loc main_arg0)) (m ((c.tc : Thread nD τ).loc main_arg1)))
        (m ((c.tc : Thread nD τ).loc main_arg2))) (m ((c.tc : Thread nD τ).loc main_arg3)))
      (m ((c.tc : Thread nD τ).loc main_arg4)) := rfl

theorem norm_apply (x : FVec Ideal S16384x1024 .f32) (g : FVec Ideal S1024 .f32) (r : Fin 16384) (l : Fin 1024) :
    norm x g (ix2 r l) = Rows.rowNorm (fun k => x (ix2 r k)) (fun k => g (ix1 k)) l := by
  pointwise [norm, Rows.rowNorm, Rows.div_1024]

theorem hidden_apply (h : FVec Ideal S16384x1024 .f32) (w : FVec Ideal S1024x4096 .f32) (r : Fin 16384)
    (f : Fin 4096) : hidden h w (ix2 r f) = Rows.hid (fun k => h (ix2 r k)) (fun k => w (ix2 k f)) := by
  pointwise [hidden, Rows.hid, Rows.sqRelu]

theorem resid_apply (x : FVec Ideal S16384x1024 .f32) (a : FVec Ideal S16384x4096 .f32)
    (w : FVec Ideal S4096x1024 .f32) (r : Fin 16384) (l : Fin 1024) :
    resid x a w (ix2 r l) = x (ix2 r l) + ∑ f, a (ix2 r f) * w (ix2 f l) := by
  pointwise [resid]

/-- The reference's result at an index. -/
theorem res_apply (m : (ℓ : Loc nD τ sig) → Buf (Elt Ideal) ℓ) (c : Dev nD) (r : Fin 16384) (l : Fin 1024) :
    res_out0 m c (ix2 r l) = Rows.mlpRow (fun k => m ((c.tc : Thread nD τ).loc main_arg0) (ix2 r k))
      (fun k => m ((c.tc : Thread nD τ).loc main_arg1) (ix1 k))
      (fun k f => m ((c.tc : Thread nD τ).loc main_arg2) (ix2 k f))
      (fun f k => m ((c.tc : Thread nD τ).loc main_arg3) (ix2 f k))
      (fun k => m ((c.tc : Thread nD τ).loc main_arg4) (ix1 k)) l := by
  rw [res_eq, norm_apply]
  simp only [resid_apply, hidden_apply, norm_apply]
  rfl

end Cert.MlpReferenceIdeal.Ref

end
-- ==== Proof.MlpClaim.lean ====
/-
  The feed-forward call's claims: the frames of its three programs, and that the kernel's array and the
  reference's array are the same function of the arguments.
-/
module

public import proofs.«01_k».proof.Defs
public import proofs.«01_k».proof.Proof.Gen.Mlp.Frame
public import proofs.«01_k».proof.Proof.MlpValue
public import proofs.«01_k».proof.Proof.MlpRef
public import Idealize.ShloMosaic.Lib.Claim

@[expose] public section

noncomputable section

namespace Cert.Proof

open Idealize.ShloMosaic Idealize.ShloMosaic.TcCoe Idealize.SL.Sem

/-- The feed-forward reference runs, leaves its arguments and uses no semaphore. -/
theorem mlp_reference_frame : quiescent_MlpReferenceIdeal (hMlpReferenceIdeal := Cert.MlpReferenceIdeal.Gen.facts) :=
  fun m ρ _ => (θ_run Cert.MlpReferenceIdeal.defs _ _).mono
    (fun r h => ⟨fun c => (h c).2, Idealize.ShloMosaic.sem_eq_zero_of_no_sems (by decide) r.2⟩)
    (Cert.MlpReferenceIdeal.Value.run (F := Ideal) m ρ)

/-- The feed-forward kernel and its reference end with the same array. -/
theorem mlp_algebraic : algebraic_MlpIdeal_MlpReferenceIdeal (hMlpIdeal := Cert.MlpIdeal.Gen.facts)
    (hMlpReferenceIdeal := Cert.MlpReferenceIdeal.Gen.facts) := by
  pair_intro
  · run_from Cert.MlpIdeal.Value.run_blocks m g
  · run_from Cert.MlpReferenceIdeal.Value.run m' g'
    funext j
    obtain ⟨r, l, rfl⟩ : ∃ a b, j = ix2 a b := ⟨j 0, j 1, eq_ix2 j⟩
    refine (Cert.MlpReferenceIdeal.Ref.res_apply m' c r l).trans ?_
    obtain ⟨h0, h1, h2, h3, h4⟩ := hagree c
    rw [h0, h1, h2, h3, h4]
    exact (Cert.MlpIdeal.Fold.final m c r l).symm

end Cert.Proof

end
-- ==== Proof.InProjValue.lean ====
/-
  What the three result arrays of the input projections hold at an index: each is the normalised row of
  residuals through one matrix.
-/
module

public import proofs.«01_k».proof.Proof.Gen.InProjIdeal.Value
public import proofs.«01_k».proof.Proof.RowNorm
public import Idealize.ShloMosaic.Lib.Pipeline.ReadBack
public import Idealize.ShloMosaic.Lib.Pipeline.ValueKit
public import Idealize.ShloMosaic.Lib.Pointwise
public import Idealize.ShloMosaic.Lib.Tactic

@[expose] public section

set_option maxRecDepth 16384

noncomputable section

namespace Cert.InProjIdeal.Rowwise

open Idealize.ShloMosaic Idealize.ShloMosaic.TcCoe Idealize.SL.Sem
open Cert.InProjIdeal Cert.InProjIdeal.Gen Cert.InProjIdeal.Value

variable (m : (ℓ : Loc nD τ sig) → Buf (Elt Ideal) ℓ)

/-! ## The payloads at an index -/

theorem pay1_apply (x : Vec Ideal S512x1024 .f32) (g : Vec Ideal S1x1024 .f32) (r : Fin 512) (l : Fin 1024) :
    k0_pay1 x g (ix2 r l) = Rows.rowNorm (fun k => x (ix2 r k)) (fun k => g (ix2 0 k)) l := by
  pointwise [k0_pay1, Rows.rowNorm]

theorem pay2_apply (x : Vec Ideal S512x1024 .f32) (g : Vec Ideal S1x1024 .f32) (w : Vec Ideal S1024x1280 .bf16)
    (r : Fin 512) (l : Fin 1280) :
    k0_pay2 x g w (ix2 r l) = Rows.proj (fun k => x (ix2 r k)) (fun k => g (ix2 0 k)) (fun k => w (ix2 k l)) := by
  pointwise [k0_pay2, pay1_apply, Rows.proj]

theorem pay3_apply (x : Vec Ideal S512x1024 .f32) (g : Vec Ideal S1x1024 .f32) (w : Vec Ideal S1024x1536 .bf16)
    (r : Fin 512) (l : Fin 1536) :
    k0_pay3 x g w (ix2 r l) = Rows.proj (fun k => x (ix2 r k)) (fun k => g (ix2 0 k)) (fun k => w (ix2 k l)) := by
  pointwise [k0_pay3, pay1_apply, Rows.proj]

theorem pay4_apply (x : Vec Ideal S512x1024 .f32) (g : Vec Ideal S1x1024 .f32) (w : Vec Ideal S1024x128 .bf16)
    (r : Fin 512) (l : Fin 128) :
    k0_pay4 x g w (ix2 r l) = Rows.proj (fun k => x (ix2 r k)) (fun k => g (ix2 0 k)) (fun k => w (ix2 k l)) := by
  pointwise [k0_pay4, pay1_apply, Rows.proj]

/-! ## The blocks that a grid point reads -/

theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

theorem lt32 (t : Fin cfg0.N) : t.val < 32 := lt_of_lt_of_eq t.isLt (show cfg0.N = 32 from N_0)

/-- Row `r` of grid point `t`'s tile, as a row of the whole array. -/
def rowIx (t : Fin cfg0.N) (r : Fin 512) : Fin 16384 := ⟨t.val * 512 + r.val, by have := lt32 t; omega⟩

theorem blk0 (c : Dev nD) (t : Fin cfg0.N) (r : Fin 512) (k : Fin 1024) :
    (iblk m c 0 t (ix2 r k) : EReal) = m ((c : Thread nD τ).loc main_arg0) (ix2 (rowIx t r) k) := by
  unfold rowIx
  blk_ext! [iblk, V, idx t]

theorem blk1 (c : Dev nD) (t : Fin cfg0.N) (k : Fin 1024) :
    (iblk m c 1 t (ix2 (0 : Fin 1) k) : EReal) = m ((c : Thread nD τ).loc main_arg1) (ix1 k) := by
  blk_ext! [iblk, V, idx t]

theorem blk2 (c : Dev nD) (t : Fin cfg0.N) (k : Fin 1024) (q : Fin 1280) :
    (iblk m c 2 t (ix2 k q) : EReal) = m ((c : Thread nD τ).loc main_arg2) (ix2 k q) := by
  blk_ext! [iblk, V, idx t]

theorem blk3 (c : Dev nD) (t : Fin cfg0.N) (k : Fin 1024) (q : Fin 1536) :
    (iblk m c 3 t (ix2 k q) : EReal) = m ((c : Thread nD τ).loc main_arg3) (ix2 k q) := by
  blk_ext! [iblk, V, idx t]

theorem blk4 (c : Dev nD) (t : Fin cfg0.N) (k : Fin 1024) (q : Fin 128) :
    (iblk m c 4 t (ix2 k q) : EReal) = m ((c : Thread nD τ).loc main_arg4) (ix2 k q) := by
  blk_ext! [iblk, V, idx t]

/-! ## The result arrays -/

/-- The argument rows. -/
abbrev xRow (c : Dev nD) (i : Fin 16384) : Fin 1024 → EReal := fun k => m ((c : Thread nD τ).loc main_arg0) (ix2 i k)
abbrev gRow (c : Dev nD) : Fin 1024 → EReal := fun k => m ((c : Thread nD τ).loc main_arg1) (ix1 k)

theorem out5 (x0 x1 x2 x3 x4) : out0_5 (F := Ideal) x0 x1 x2 x3 x4 = k0_pay2 x0 x1 x2 := by
  funext j
  unfold out0_5
  frame_out

theorem out6 (x0 x1 x2 x3 x4) : out0_6 (F := Ideal) x0 x1 x2 x3 x4 = k0_pay3 x0 x1 x3 := by
  funext j
  unfold out0_6
  frame_out

theorem out7 (x0 x1 x2 x3 x4) : out0_7 (F := Ideal) x0 x1 x2 x3 x4 = k0_pay4 x0 x1 x4 := by
  funext j
  unfold out0_7
  frame_out

theorem final5 (c : Dev nD) (i : Fin 16384) (l : Fin 1280) :
    (dats m 0 c).arrAt 5 cfg0.N (ix2 i l)
      = Rows.proj (xRow m c i) (gRow m c) (fun k => m ((c : Thread nD τ).loc main_arg2) (ix2 k l)) := by
  have e : (dats m 0 c).arrAt 5 cfg0.N = fun j : S16384x1280.Idx =>
      Rows.proj (xRow m c (j 0)) (gRow m c) (fun k => m ((c : Thread nD τ).loc main_arg2) (ix2 k (j 1))) := by
    refine (dats m 0 c).arrAt_eq_of_covers 5 _ (by decide +kernel) fun t hf y => ?_
    obtain ⟨r, k, rfl⟩ : ∃ (a : Fin 512) (b : Fin 1280), y = ix2 a b := ⟨y 0, y 1, eq_ix2 y⟩
    have e0 : (((cfg0.win 5).blk t).view.emb (ix2 r k)) 0 = rowIx t r := by
      apply Fin.ext
      blk_simp [idx t]
      rfl
    have e1 : (((cfg0.win 5).blk t).view.emb (ix2 r k)) 1 = k := by
      apply Fin.ext
      blk_simp [idx t]
    rw [e0, e1]
    blk_simp
    rw [after0_5, out5, pay2_apply]
    simp only [blk0, blk1, blk2]
  rw [e]
  rfl

theorem final6 (c : Dev nD) (i : Fin 16384) (l : Fin 1536) :
    (dats m 0 c).arrAt 6 cfg0.N (ix2 i l)
      = Rows.proj (xRow m c i) (gRow m c) (fun k => m ((c : Thread nD τ).loc main_arg3) (ix2 k l)) := by
  have e : (dats m 0 c).arrAt 6 cfg0.N = fun j : S16384x1536.Idx =>
      Rows.proj (xRow m c (j 0)) (gRow m c) (fun k => m ((c : Thread nD τ).loc main_arg3) (ix2 k (j 1))) := by
    refine (dats m 0 c).arrAt_eq_of_covers 6 _ (by decide +kernel) fun t hf y => ?_
    obtain ⟨r, k, rfl⟩ : ∃ (a : Fin 512) (b : Fin 1536), y = ix2 a b := ⟨y 0, y 1, eq_ix2 y⟩
    have e0 : (((cfg0.win 6).blk t).view.emb (ix2 r k)) 0 = rowIx t r := by
      apply Fin.ext
      blk_simp [idx t]
      rfl
    have e1 : (((cfg0.win 6).blk t).view.emb (ix2 r k)) 1 = k := by
      apply Fin.ext
      blk_simp [idx t]
    rw [e0, e1]
    blk_simp
    rw [after0_6, out6, pay3_apply]
    simp only [blk0, blk1, blk3]
  rw [e]
  rfl

theorem final7 (c : Dev nD) (i : Fin 16384) (l : Fin 128) :
    (dats m 0 c).arrAt 7 cfg0.N (ix2 i l)
      = Rows.proj (xRow m c i) (gRow m c) (fun k => m ((c : Thread nD τ).loc main_arg4) (ix2 k l)) := by
  have e : (dats m 0 c).arrAt 7 cfg0.N = fun j : S16384x128.Idx =>
      Rows.proj (xRow m c (j 0)) (gRow m c) (fun k => m ((c : Thread nD τ).loc main_arg4) (ix2 k (j 1))) := by
    refine (dats m 0 c).arrAt_eq_of_covers 7 _ (by decide +kernel) fun t hf y => ?_
    obtain ⟨r, k, rfl⟩ : ∃ (a : Fin 512) (b : Fin 128), y = ix2 a b := ⟨y 0, y 1, eq_ix2 y⟩
    have e0 : (((cfg0.win 7).blk t).view.emb (ix2 r k)) 0 = rowIx t r := by
      apply Fin.ext
      blk_simp [idx t]
      rfl
    have e1 : (((cfg0.win 7).blk t).view.emb (ix2 r k)) 1 = k := by
      apply Fin.ext
      blk_simp [idx t]
    rw [e0, e1]
    blk_simp
    rw [after0_7, out7, pay4_apply]
    simp only [blk0, blk1, blk4]
  rw [e]
  rfl

end Cert.InProjIdeal.Rowwise

end
-- ==== Proof.InProjRef.lean ====
/-
  What the reference of the input projections computes at an index: the row normalisation, then the three
  products, as sums of extended reals.
-/
module

public import proofs.«01_k».proof.Proof.Gen.InProjReferenceIdeal.Run
public import proofs.«01_k».proof.Proof.RowNorm
public import Idealize.ShloMosaic.Lib.Pointwise
public import Idealize.ShloMosaic.Lib.Tactic

@[expose] public section

set_option maxRecDepth 16384

noncomputable section

namespace Cert.InProjReferenceIdeal.Ref

open Idealize.ShloMosaic Idealize.ShloMosaic.TcCoe Idealize.SL.Sem
open Cert.InProjReferenceIdeal Cert.InProjReferenceIdeal.Gen Cert.InProjReferenceIdeal.Value

/-- The reference's row normalisation, as printed. -/
def norm (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 g))

theorem norm_apply (x : FVec Ideal S16384x1024 .f32) (g : FVec Ideal S1024 .f32) (r : Fin 16384) (l : Fin 1024) :
    norm x g (ix2 r l) = Rows.rowNorm (fun k => x (ix2 r k)) (fun k => g (ix1 k)) l := by
  pointwise [norm, Rows.rowNorm, Rows.div_1024]

/-- The three products, as printed. -/
def mix (x : FVec Ideal S16384x1024 .f32) (g : FVec Ideal S1024 .f32) (w : FVec Ideal S1024x1280 .f32) :
    FVec Ideal S16384x1280 .f32 :=
  Host.dotGeneral dot_S16384x1024_S1024x1280_S16384x1280_1_0_0_1_n_n none (norm x g) w

def qkv (x : FVec Ideal S16384x1024 .f32) (g : FVec Ideal S1024 .f32) (w : FVec Ideal S1024x1536 .f32) :
    FVec Ideal S16384x1536 .bf16 :=
  truncf .bf16 (Host.dotGeneral dot_S16384x1024_S1024x1536_S16384x1536_1_0_0_1_n_n none (norm x g) w : FVec Ideal S16384x1536 .f32) bitsLt_bf16_f32

def gates (x : FVec Ideal S16384x1024 .f32) (g : FVec Ideal S1024 .f32) (w : FVec Ideal S1024x128 .f32) :
    FVec Ideal S16384x128 .f32 :=
  Host.dotGeneral dot_S16384x1024_S1024x128_S16384x128_1_0_0_1_n_n none (norm x g) w

theorem mix_apply (x : FVec Ideal S16384x1024 .f32) (g : FVec Ideal S1024 .f32) (w : FVec Ideal S1024x1280 .f32)
    (r : Fin 16384) (l : Fin 1280) :
    mix x g w (ix2 r l) = Rows.proj (fun k => x (ix2 r k)) (fun k => g (ix1 k)) (fun k => w (ix2 k l)) := by
  pointwise [mix, norm_apply, Rows.proj]

theorem qkv_apply (x : FVec Ideal S16384x1024 .f32) (g : FVec Ideal S1024 .f32) (w : FVec Ideal S1024x1536 .f32)
    (r : Fin 16384) (l : Fin 1536) :
    qkv x g w (ix2 r l) = Rows.proj (fun k => x (ix2 r k)) (fun k => g (ix1 k)) (fun k => w (ix2 k l)) := by
  pointwise [qkv, norm_apply, Rows.proj]

theorem gates_apply (x : FVec Ideal S16384x1024 .f32) (g : FVec Ideal S1024 .f32) (w : FVec Ideal S1024x128 .f32)
    (r : Fin 16384) (l : Fin 128) :
    gates x g w (ix2 r l) = Rows.proj (fun k => x (ix2 r k)) (fun k => g (ix1 k)) (fun k => w (ix2 k l)) := by
  pointwise [gates, norm_apply, Rows.proj]

end Cert.InProjReferenceIdeal.Ref

end
-- ==== Proof.InProjClaim.lean ====
/-
  The input projections' claims: the frame of their reference, and that the kernel's three arrays and the
  reference's three arrays are the same functions of the arguments.
-/
module

public import proofs.«01_k».proof.Defs
public import proofs.«01_k».proof.Proof.Gen.InProj.Frame
public import proofs.«01_k».proof.Proof.InProjValue
public import proofs.«01_k».proof.Proof.InProjRef
public import Idealize.ShloMosaic.Lib.Claim

@[expose] public section

noncomputable section

namespace Cert.Proof

open Idealize.ShloMosaic Idealize.ShloMosaic.TcCoe Idealize.SL.Sem

/-- The reference of the input projections runs, leaves its arguments and uses no semaphore. -/
theorem in_proj_reference_frame :
    quiescent_InProjReferenceIdeal (hInProjReferenceIdeal := Cert.InProjReferenceIdeal.Gen.facts) :=
  fun m ρ _ => (θ_run Cert.InProjReferenceIdeal.defs _ _).mono
    (fun r h => ⟨fun c => (h c).2.2.2, Idealize.ShloMosaic.sem_eq_zero_of_no_sems (by decide) r.2⟩)
    (Cert.InProjReferenceIdeal.Value.run (F := Ideal) m ρ)

/-- The input projections' kernel and their reference end with the same three arrays. -/
theorem in_proj_algebraic : algebraic_InProjIdeal_InProjReferenceIdeal (hInProjIdeal := Cert.InProjIdeal.Gen.facts)
    (hInProjReferenceIdeal := Cert.InProjReferenceIdeal.Gen.facts) := by
  pair_intro
  · run_from Cert.InProjIdeal.Value.run_blocks m g
  · run_from Cert.InProjReferenceIdeal.Value.run m' g'
    all_goals
      funext j
      obtain ⟨r, l, rfl⟩ : ∃ a b, j = ix2 a b := ⟨j 0, j 1, eq_ix2 j⟩
    · refine (Cert.InProjReferenceIdeal.Ref.mix_apply _ _ _ r l).trans ?_
      exact (Cert.InProjIdeal.Rowwise.final5 m c r l).symm
    · refine (Cert.InProjReferenceIdeal.Ref.qkv_apply _ _ _ r l).trans ?_
      exact (Cert.InProjIdeal.Rowwise.final6 m c r l).symm
    · refine (Cert.InProjReferenceIdeal.Ref.gates_apply _ _ _ r l).trans ?_
      exact (Cert.InProjIdeal.Rowwise.final7 m c r l).symm

end Cert.Proof

end
-- ==== Proof.MergeMath.lean ====
/-
  The merge of the four mixers' rows, as extended reals: each row of 256 normalised by the root of its mean square,
  the four side by side through the output matrix. The kernel keeps the fourth row in four heads of 128 lanes of
  which the last 64 are zero; the lemmas on sums say that the zeros add nothing.
-/
module

public import proofs.«01_k».proof.Proof.RowNorm
public import Idealize.ShloMosaic.Lib.Pipeline.ValueKit

@[expose] public section

noncomputable section

namespace Cert.Rows

open Idealize.ShloMosaic

/-- The constant 256 of the reference. -/
theorem ofBits_256 : Ideal.ofBits .f32 0x43800000#32 = (((256 : ℝ)) : EReal) := by
  simp [Ideal.ofBits, Ideal.ieee, -EReal.coe_mul]; norm_num

/-- The constant 1/256 of the kernel. -/
theorem ofBits_inv_256 : Ideal.ofBits .f32 0x3B800000#32 = (((1 : ℝ) / 256 : ℝ) : EReal) := by
  simp [Ideal.ofBits, Ideal.ieee, -EReal.coe_mul]; norm_num

/-- Dividing by 256 is multiplying by 1/256, at the infinities too. -/
theorem div_256 (a : EReal) :
    Ideal.div a (Ideal.ofBits .f32 0x43800000#32) = a * Ideal.ofBits .f32 0x3B800000#32 := by
  rw [ofBits_256, ofBits_inv_256]
  exact Ideal.div_coe (by norm_num) a

/-- The factor that a sum of 256 squares gives. -/
def scale (s : EReal) : EReal :=
  Ideal.rsqrt (s * Ideal.ofBits .f32 0x3B800000#32 + Ideal.ofBits .f32 0x358637BD#32)

/-- Entry `q` of a mixer's row `y`, normalised by the root of its mean square and scaled by `g`. -/
def seg (y g : Fin 256 → EReal) (q : Fin 256) : EReal := y q * scale (∑ k, y k * y k) * g q

/-- Entry of the residual row with the four mixers' rows added: the residual `x`, the mixers' rows, the gains and
    one column of the output matrix. -/
def mergeAt (x : EReal) (ya yb yc yd : Fin 256 → EReal) (g w : Fin 1024 → EReal) : EReal :=
  x + (∑ q : Fin 256, seg ya (fun q => g ⟨q.val, by omega⟩) q * w ⟨q.val, by omega⟩
    + ∑ q : Fin 256, seg yb (fun q => g ⟨256 + q.val, by omega⟩) q * w ⟨256 + q.val, by omega⟩
    + ∑ q : Fin 256, seg yc (fun q => g ⟨512 + q.val, by omega⟩) q * w ⟨512 + q.val, by omega⟩
    + ∑ q : Fin 256, seg yd (fun q => g ⟨768 + q.val, by omega⟩) q * w ⟨768 + q.val, by omega⟩)

/-- A sum over the lanes that begin with three rows of 256. -/
theorem sum_three (n : ℕ) (f : Fin (256 + 256 + 256 + n) → EReal) :
    ∑ i, f i = ∑ q : Fin 256, f ⟨q.val, by omega⟩ + ∑ q : Fin 256, f ⟨256 + q.val, by omega⟩
      + ∑ q : Fin 256, f ⟨512 + q.val, by omega⟩ + ∑ q : Fin n, f ⟨768 + q.val, by omega⟩ := by
  rw [Fin.sum_univ_add, Fin.sum_univ_add, Fin.sum_univ_add]
  rfl

/-- Four heads of 128 lanes whose last 64 are zero sum to the four heads of 64. -/
theorem sum_pad (f : Fin 512 → EReal) (g : Fin 256 → EReal)
    (h1 : ∀ (h : Fin 4) (d : Fin 64), f ⟨h.val * 128 + d.val, by omega⟩ = g ⟨h.val * 64 + d.val, by omega⟩)
    (h0 : ∀ (h : Fin 4) (d : Fin 64), f ⟨h.val * 128 + (64 + d.val), by omega⟩ = 0) : ∑ i, f i = ∑ i, g i := by
  rw [← Fin.sum_mul_add_congr (S := 4) (n := 128) (F := fun h d => f ⟨h.val * 128 + d.val, by omega⟩) (f := f)
    fun s k hl => rfl]
  refine Fin.sum_mul_add_congr (S := 4) (n := 64)
    (F := fun h d => g ⟨h.val * 64 + d.val, by omega⟩) (fun s k hl => rfl) |>.symm.trans ?_ |>.symm
  refine Finset.sum_congr rfl fun h _ => ?_
  refine Eq.symm ?_
  refine (Fin.sum_univ_add (a := 64) (b := 64) (fun d : Fin 128 => f ⟨h.val * 128 + d.val, by omega⟩)).trans ?_
  refine (congrArg₂ (· + ·) (Finset.sum_congr rfl fun d _ => h1 h d) (Finset.sum_congr rfl fun d _ => h0 h d)).trans ?_
  simp

end Cert.Rows

end
-- ==== Proof.MergeHost.lean ====
/-
  What the merge kernel's call is given: the arguments, and the host's padded copies of the fourth mixer's rows, its
  gains and its part of the output matrix, read at an index.
-/
module

public import proofs.«01_k».proof.Proof.Gen.MergeIdeal.Value
public import proofs.«01_k».proof.Proof.MergeMath
public import Idealize.ShloMosaic.Lib.Pipeline.ValueKit
public import Idealize.ShloMosaic.Lib.Pointwise
public import Idealize.ShloMosaic.Lib.Tactic

@[expose] public section

set_option maxRecDepth 16384

noncomputable section

namespace Cert.MergeIdeal.Rowwise

open Idealize.ShloMosaic Idealize.ShloMosaic.TcCoe Idealize.SL.Sem
open Cert.MergeIdeal Cert.MergeIdeal.Gen Cert.MergeIdeal.Value

variable (m : (ℓ : Loc nD τ sig) → Buf (Elt Ideal) ℓ)

/-- The padding value, as printed. -/
def padZero : FVec Ideal S_ .f32 := sitofp .f32 (constantI S_ 32 0#32)

/-- The fourth mixer's rows, each head padded to 128 lanes, as printed. -/
def padY (x : FVec Ideal S16384x256 .f32) : FVec Ideal S16384x512 .f32 :=
  shapeCast S16384x512 (pad S16384x4x128 ![0, 0, 0] ![0, 0, 64] ![0, 0, 0]
    (shapeCast S16384x4x64 x shapeCasts_S16384x256_S16384x4x64) padZero
    pads_S16384x4x64_S16384x4x128_000_000_0640 h_S_) shapeCasts_S16384x4x128_S16384x512

/-- The gains of the first three mixers, as printed. -/
def firstG (g : FVec Ideal S1024 .f32) : FVec Ideal S1x768 .f32 :=
  shapeCast S1x768 (extractStridedSlice S768 ![0] g slices_S1024_S768_0) shapeCasts_S768_S1x768

/-- The gains of the fourth mixer, each head padded to 128 lanes, as printed. -/
def padG (g : FVec Ideal S1024 .f32) : FVec Ideal S1x512 .f32 :=
  shapeCast S1x512 (pad S1x4x128 ![0, 0, 0] ![0, 0, 64] ![0, 0, 0]
    (shapeCast S1x4x64 (shapeCast S1x256 (extractStridedSlice S256 ![768] g slices_S1024_S256_768)
      shapeCasts_S256_S1x256) shapeCasts_S1x256_S1x4x64) padZero
    pads_S1x4x64_S1x4x128_000_000_0640 h_S_) shapeCasts_S1x4x128_S1x512

/-- The output matrix's rows for the fourth mixer, each head padded to 128 rows, as printed. -/
def padRows (w : FVec Ideal S1024x1024 .f32) : FVec Ideal S512x1024 .f32 :=
  shapeCast S512x1024 (pad S4x128x1024 ![0, 0, 0] ![0, 64, 0] ![0, 0, 0]
    (shapeCast S4x64x1024 (extractStridedSlice S256x1024 ![768, 0] w slices_S1024x1024_S256x1024_768_0)
      shapeCasts_S256x1024_S4x64x1024) padZero
    pads_S4x64x1024_S4x128x1024_000_0640_000 h_S_) shapeCasts_S4x128x1024_S512x1024

/-- The output matrix with the fourth mixer's rows padded, as printed. -/
def padW (w : FVec Ideal S1024x1024 .f32) : FVec Ideal S1280x1024 .bf16 :=
  truncf .bf16 (concatenate S1280x1024 0
    [⟨S768x1024, extractStridedSlice S768x1024 ![0, 0] w slices_S1024x1024_S768x1024_0_0⟩, ⟨S512x1024, padRows w⟩]
    concatenates_S768x1024_S512x1024_S1280x1024_d0 : FVec Ideal S1280x1024 .f32) bitsLt_bf16_f32

theorem V_v9 (c : Dev nD) : V m c main_v9 = padY (m ((c : Thread nD τ).loc main_arg3)) := by
  simp only [V, hostOps0, hostOps0_1, hostOps0_2, hostOps0_3, hostOps0_4, hostOps0_5, hostOps0_6, List.flatten_cons,
    List.flatten_nil, List.append_nil, List.cons_append, List.nil_append]
  after_results
  try rfl

theorem V_v11 (c : Dev nD) : V m c main_v11 = firstG (m ((c : Thread nD τ).loc main_arg5)) := by
  simp only [V, hostOps0, hostOps0_1, hostOps0_2, hostOps0_3, hostOps0_4, hostOps0_5, hostOps0_6, List.flatten_cons,
    List.flatten_nil, List.append_nil, List.cons_append, List.nil_append]
  after_results
  try rfl

theorem V_v16 (c : Dev nD) : V m c main_v16 = padG (m ((c : Thread nD τ).loc main_arg5)) := by
  simp only [V, hostOps0, hostOps0_1, hostOps0_2, hostOps0_3, hostOps0_4, hostOps0_5, hostOps0_6, List.flatten_cons,
    List.flatten_nil, List.append_nil, List.cons_append, List.nil_append]
  after_results
  try rfl

theorem V_v6 (c : Dev nD) : V m c main_v6 = padW (m ((c : Thread nD τ).loc main_arg6)) := by
  simp only [V, hostOps0, hostOps0_1, hostOps0_2, hostOps0_3, hostOps0_4, hostOps0_5, hostOps0_6, List.flatten_cons,
    List.flatten_nil, List.append_nil, List.cons_append, List.nil_append]
  after_results
  try rfl

theorem padZero_apply (i : S_.Idx) : padZero i = (0 : EReal) := by
  show (((0#32 : BitVec 32).toInt : ℝ) : EReal) = 0
  simp

theorem padY_low (x : FVec Ideal S16384x256 .f32) (r : Fin 16384) (h : Fin 4) (d : Fin 64) :
    padY x (ix2 r (⟨h.val * 128 + d.val, by omega⟩ : Fin 512)) = x (ix2 r (⟨h.val * 64 + d.val, by omega⟩ : Fin 256)) := by
  pointwise [padY, padZero_apply]
  rw [dif_pos (by omega)]
  exact congrArg (fun k => x (ix2 r k)) (Fin.ext (by dsimp only; omega))

theorem padY_high (x : FVec Ideal S16384x256 .f32) (r : Fin 16384) (h : Fin 4) (d : Fin 64) :
    padY x (ix2 r (⟨h.val * 128 + (64 + d.val), by omega⟩ : Fin 512)) = (0 : EReal) := by
  pointwise [padY, padZero_apply]
  rw [dif_neg (by omega)]

theorem firstG_apply (g : FVec Ideal S1024 .f32) (q : Fin 768) :
    firstG g (ix2 0 q) = g (ix1 (⟨q.val, by omega⟩ : Fin 1024)) := by
  pointwise [firstG]

theorem padG_low (g : FVec Ideal S1024 .f32) (h : Fin 4) (d : Fin 64) :
    padG g (ix2 0 (⟨h.val * 128 + d.val, by omega⟩ : Fin 512))
      = g (ix1 (⟨768 + (h.val * 64 + d.val), by omega⟩ : Fin 1024)) := by
  pointwise [padG, padZero_apply]
  rw [dif_pos (by omega)]
  exact congrArg (fun k => g (ix1 k)) (Fin.ext (by dsimp only; omega))

theorem padW_first (w : FVec Ideal S1024x1024 .f32) (q : Fin 768) (l : Fin 1024) :
    padW w (ix2 (⟨q.val, by omega⟩ : Fin 1280) l) = w (ix2 (⟨q.val, by omega⟩ : Fin 1024) l) := by
  pointwise [padW, padRows, padZero_apply]

theorem padW_low (w : FVec Ideal S1024x1024 .f32) (h : Fin 4) (d : Fin 64) (l : Fin 1024) :
    padW w (ix2 (⟨768 + (h.val * 128 + d.val), by omega⟩ : Fin 1280) l)
      = w (ix2 (⟨768 + (h.val * 64 + d.val), by omega⟩ : Fin 1024) l) := by
  pointwise [padW, padRows, padZero_apply]
  rw [dif_pos (by omega)]
  exact congrArg (fun k => w (ix2 k l)) (Fin.ext (by dsimp only; omega))

end Cert.MergeIdeal.Rowwise

end
-- ==== Proof.MergeValue.lean ====
/-
  What the merge kernel's result array holds at an index.
-/
module

public import proofs.«01_k».proof.Proof.MergeHost
public import Idealize.ShloMosaic.Lib.Pipeline.ReadBack

@[expose] public section

set_option maxRecDepth 16384

noncomputable section

namespace Cert.MergeIdeal.Rowwise

open Idealize.ShloMosaic Idealize.ShloMosaic.TcCoe Idealize.SL.Sem
open Cert.MergeIdeal Cert.MergeIdeal.Gen Cert.MergeIdeal.Value

variable (m : (ℓ : Loc nD τ sig) → Buf (Elt Ideal) ℓ)

/-! ## A tile's result -/

/-- The kernel's result for a row, from the row's blocks: the fourth mixer's lanes, gains and matrix rows padded. -/
def tile (x : EReal) (ya yb yc : Fin 256 → EReal) (yd : Fin 512 → EReal) (g : Fin 768 → EReal) (gd : Fin 512 → EReal)
    (w : Fin 1280 → EReal) : EReal :=
  x + (∑ q : Fin 256, Rows.seg ya (fun q => g ⟨q.val, by omega⟩) q * w ⟨q.val, by omega⟩
    + ∑ q : Fin 256, Rows.seg yb (fun q => g ⟨256 + q.val, by omega⟩) q * w ⟨256 + q.val, by omega⟩
    + ∑ q : Fin 256, Rows.seg yc (fun q => g ⟨512 + q.val, by omega⟩) q * w ⟨512 + q.val, by omega⟩
    + ∑ q : Fin 512, yd q * Rows.scale (∑ k, yd k * yd k) * gd q * w ⟨768 + q.val, by omega⟩)

/-- The third mixer's normalised rows, as printed. -/
def third (v30 : Vec Ideal S512x256 .f32) (v32 : FVec Ideal S1x256 .f32) (v37 : FVec Ideal S512x1 .f32)
    (cst : Ideal .f32) : FVec Ideal S512x256 .f32 :=
  mulf (mulf v30 (broadcastTo S512x256 (rsqrt (addf v37 (broadcast S512x1 cst))) broadcasts_S512x1_S512x256))
    (broadcastTo S512x256 v32 broadcasts_S1x256_S512x256)

/-- The fourth mixer's normalised rows, as printed. -/
def fourth (v45 : Vec Ideal S512x512 .f32) (v47 : Vec Ideal S1x512 .f32) : FVec Ideal S512x512 .f32 :=
  have v46 : FVec Ideal S512x512 .f32 := shapeCast S512x512 v45 shapeCasts_S512x512_S512x512
  mulf (mulf v46 (broadcastTo S512x512 (rsqrt (addf (mulf (shapeCast S512x1
    (multiReduction .add [1] S512 (mulf v46 v46) 0x00000000#32 reduces_S512x512_S512 (.inl rfl) rfl : FVec Ideal S512 .f32)
      shapeCasts_S512_S512x1) (broadcast S512x1 (Scalar.ofBits .f32 0x3B800000#32)))
      (broadcast S512x1 (Scalar.ofBits .f32 0x358637BD#32)))) broadcasts_S512x1_S512x512))
    (broadcastTo S512x512 (shapeCast S1x512 v47 shapeCasts_S1x512_S1x512) broadcasts_S1x512_S512x512)

/-- The four side by side, as printed. -/
def beside (a b c : FVec Ideal S512x256 .f32) (d : FVec Ideal S512x512 .f32) : FVec Ideal S512x1280 .f32 :=
  concatenate S512x1280 1 [⟨S512x256, a⟩, ⟨S512x256, b⟩, ⟨S512x256, c⟩, ⟨S512x512, d⟩]
    concatenates_S512x256_S512x256_S512x256_S512x512_S512x1280_d1

/-- The product with the output matrix and the residual, as printed. -/
def project (x : Vec Ideal S512x1024 .f32) (y : FVec Ideal S512x1280 .f32) (w : Vec Ideal S1280x1024 .bf16) :
    FVec Ideal S512x1024 .f32 :=
  addf x (matmul dot_S512x1280_S1280x1024_S512x1024_1_0_0_1_n_n none (truncf .bf16 y bitsLt_bf16_f32)
    (shapeCast S1280x1024 w shapeCasts_S1280x1024_S1280x1024 : FVec Ideal S1280x1024 .bf16)
    (constant S512x1024 .f32 0x00000000#32))

theorem pay1_eq (v14 v29 v30 v32 v37 cst v45 v47 v63 v64) :
    k0_pay1 (F := Ideal) v14 v29 v30 v32 v37 cst v45 v47 v63 v64
      = project v63 (beside v14 v29 (third v30 v32 v37 cst) (fourth v45 v47)) v64 := rfl

theorem pay2_apply (y : Vec Ideal S512x256 .f32) (g : Vec Ideal S1x256 .f32) (r : Fin 512) (q : Fin 256) :
    k0_pay2 y g (ix2 r q) = Rows.seg (fun k => y (ix2 r k)) (fun k => g (ix2 0 k)) q := by
  pointwise [k0_pay2, Rows.seg, Rows.scale]

theorem pay3_apply (y : Vec Ideal S512x256 .f32) (g : Vec Ideal S1x256 .f32) (r : Fin 512) (q : Fin 256) :
    k0_pay3 y g (ix2 r q) = Rows.seg (fun k => y (ix2 r k)) (fun k => g (ix2 0 k)) q := by
  pointwise [k0_pay3, Rows.seg, Rows.scale]

theorem third_apply (y : Vec Ideal S512x256 .f32) (g : Vec Ideal S1x256 .f32) (r : Fin 512) (q : Fin 256) :
    third y (k0_pay4 g) (k0_pay5 y) (Scalar.ofBits .f32 0x358637BD#32) (ix2 r q)
      = Rows.seg (fun k => y (ix2 r k)) (fun k => g (ix2 0 k)) q := by
  pointwise [third, k0_pay4, k0_pay5, Rows.seg, Rows.scale]

theorem fourth_apply (y : Vec Ideal S512x512 .f32) (g : Vec Ideal S1x512 .f32) (r q : Fin 512) :
    fourth y g (ix2 r q)
      = (y (ix2 r q) * Rows.scale (∑ k, y (ix2 r k) * y (ix2 r k)) * g (ix2 0 q) : EReal) := by
  pointwise [fourth, Rows.scale]

theorem project_apply (x : Vec Ideal S512x1024 .f32) (y : FVec Ideal S512x1280 .f32) (w : Vec Ideal S1280x1024 .bf16)
    (r : Fin 512) (l : Fin 1024) :
    project x y w (ix2 r l) = (x (ix2 r l) + ∑ k : Fin 1280, y (ix2 r k) * w (ix2 k l) : EReal) := by
  pointwise [project]

theorem beside_0 (a b c : FVec Ideal S512x256 .f32) (d : FVec Ideal S512x512 .f32) (r : Fin 512) (q : Fin 256) :
    beside a b c d (ix2 r (⟨q.val, by omega⟩ : Fin 1280)) = a (ix2 r q) := by
  pointwise [beside]

theorem beside_1 (a b c : FVec Ideal S512x256 .f32) (d : FVec Ideal S512x512 .f32) (r : Fin 512) (q : Fin 256) :
    beside a b c d (ix2 r (⟨256 + q.val, by omega⟩ : Fin 1280)) = b (ix2 r q) := by
  pointwise [beside]

theorem beside_2 (a b c : FVec Ideal S512x256 .f32) (d : FVec Ideal S512x512 .f32) (r : Fin 512) (q : Fin 256) :
    beside a b c d (ix2 r (⟨512 + q.val, by omega⟩ : Fin 1280)) = c (ix2 r q) := by
  pointwise [beside]
  rw [dif_neg (by omega), dif_neg (by omega), dif_pos (by omega)]
  exact congrArg (fun k => c (ix2 r k)) (Fin.ext (by dsimp only; omega))

theorem beside_3 (a b c : FVec Ideal S512x256 .f32) (d : FVec Ideal S512x512 .f32) (r : Fin 512) (q : Fin 512) :
    beside a b c d (ix2 r (⟨768 + q.val, by omega⟩ : Fin 1280)) = d (ix2 r q) := by
  pointwise [beside]
  rw [dif_neg (by omega), dif_neg (by omega), dif_neg (by omega)]
  exact congrArg (fun k => d (ix2 r k)) (Fin.ext (by dsimp only; omega))

theorem ld_1 (g : Vec Ideal S1x768 .f32) (q : Fin 256) :
    View.ld g r0_1 (ix2 0 q) = g (ix2 0 (⟨q.val, by omega⟩ : Fin 768)) := by
  pointwise [r0_1]

theorem ld_2 (g : Vec Ideal S1x768 .f32) (q : Fin 256) :
    View.ld g r0_2 (ix2 0 q) = g (ix2 0 (⟨256 + q.val, by omega⟩ : Fin 768)) := by
  pointwise [r0_2]

theorem ld_3 (g : Vec Ideal S1x768 .f32) (q : Fin 256) :
    View.ld g r0_3 (ix2 0 q) = g (ix2 0 (⟨512 + q.val, by omega⟩ : Fin 768)) := by
  pointwise [r0_3]

theorem out_apply (x0 : Vec Ideal S512x256 .f32) (x1 : Vec Ideal S512x256 .f32) (x2 : Vec Ideal S512x256 .f32)
    (x3 : Vec Ideal S512x512 .f32) (x4 : Vec Ideal S512x1024 .f32) (x5 : Vec Ideal S1x768 .f32)
    (x6 : Vec Ideal S1x512 .f32) (x7 : Vec Ideal S1280x1024 .bf16) (r : Fin 512) (l : Fin 1024) :
    out0_8 x0 x1 x2 x3 x4 x5 x6 x7 (ix2 r l)
      = tile (x4 (ix2 r l)) (fun k => x0 (ix2 r k)) (fun k => x1 (ix2 r k)) (fun k => x2 (ix2 r k))
          (fun k => x3 (ix2 r k)) (fun k => x5 (ix2 0 k)) (fun k => x6 (ix2 0 k)) (fun k => x7 (ix2 k l)) := by
  unfold out0_8
  frame_out
  rw [pay1_eq, project_apply]
  unfold tile
  congr 1
  refine (Rows.sum_three 512 _).trans ?_
  simp only [beside_0, beside_1, beside_2, beside_3, pay2_apply, pay3_apply, third_apply, fourth_apply]
  exact congrArg₂ (· + ·) (congrArg₂ (· + ·) (congrArg₂ (· + ·)
    (Finset.sum_congr rfl fun q _ => congrArg (fun g => Rows.seg _ g q * _) (funext (ld_1 x5)))
    (Finset.sum_congr rfl fun q _ => congrArg (fun g => Rows.seg _ g q * _) (funext (ld_2 x5))))
    (Finset.sum_congr rfl fun q _ => congrArg (fun g => Rows.seg _ g q * _) (funext (ld_3 x5)))) rfl

/-- With the padded lanes zero, a tile's result is the merge of the four rows. -/
theorem tile_eq (x : EReal) (ya yb yc : Fin 256 → EReal) (yd : Fin 512 → EReal) (g : Fin 768 → EReal)
    (gd : Fin 512 → EReal) (w : Fin 1280 → EReal) (yd' : Fin 256 → EReal) (g' w' : Fin 1024 → EReal)
    (hy : ∀ (h : Fin 4) (d : Fin 64), yd ⟨h.val * 128 + d.val, by omega⟩ = yd' ⟨h.val * 64 + d.val, by omega⟩)
    (hy0 : ∀ (h : Fin 4) (d : Fin 64), yd ⟨h.val * 128 + (64 + d.val), by omega⟩ = 0)
    (hg : ∀ q : Fin 768, g q = g' ⟨q.val, by omega⟩)
    (hgd : ∀ (h : Fin 4) (d : Fin 64),
      gd ⟨h.val * 128 + d.val, by omega⟩ = g' ⟨768 + (h.val * 64 + d.val), by omega⟩)
    (hw : ∀ q : Fin 768, w ⟨q.val, by omega⟩ = w' ⟨q.val, by omega⟩)
    (hwd : ∀ (h : Fin 4) (d : Fin 64),
      w ⟨768 + (h.val * 128 + d.val), by omega⟩ = w' ⟨768 + (h.val * 64 + d.val), by omega⟩) :
    tile x ya yb yc yd g gd w = Rows.mergeAt x ya yb yc yd' g' w' := by
  have hs : ∑ k, yd k * yd k = ∑ k, yd' k * yd' k :=
    Rows.sum_pad _ _ (fun h d => by rw [hy]) (fun h d => by rw [hy0, mul_zero])
  unfold tile Rows.mergeAt
  congr 1
  refine congrArg₂ (· + ·) (congrArg₂ (· + ·) (congrArg₂ (· + ·) ?_ ?_) ?_) ?_
  · refine Finset.sum_congr rfl fun q _ => ?_
    simp only [hg]
    rw [hw ⟨q.val, by omega⟩]
  · refine Finset.sum_congr rfl fun q _ => ?_
    simp only [hg]
    rw [hw ⟨256 + q.val, by omega⟩]
  · refine Finset.sum_congr rfl fun q _ => ?_
    simp only [hg]
    rw [hw ⟨512 + q.val, by omega⟩]
  · rw [hs]
    refine Rows.sum_pad _ _ (fun h d => ?_) (fun h d => ?_)
    · rw [hy, hgd, hwd]
      rfl
    · rw [hy0, zero_mul, zero_mul, zero_mul]

/-! ## The blocks that a grid point reads -/

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![t.val, 0] :=
  (by decide +kernel : ∀ t : Fin grid0.N, _)

theorem lt32 (t : Fin cfg0.N) : t.val < 32 := lt_of_lt_of_eq t.isLt (show cfg0.N = 32 from N_0)

/-- Row `r` of grid point `t`'s tile, as a row of the whole array. -/
def rowIx (t : Fin cfg0.N) (r : Fin 512) : Fin 16384 := ⟨t.val * 512 + r.val, by have := lt32 t; omega⟩

theorem blk0 (c : Dev nD) (t : Fin cfg0.N) (r : Fin 512) (k : Fin 256) :
    (iblk m c 0 t (ix2 r k) : EReal) = V m c main_arg0 (ix2 (rowIx t r) k) := by
  unfold rowIx
  blk_ext! [iblk, idx t]

theorem blk1 (c : Dev nD) (t : Fin cfg0.N) (r : Fin 512) (k : Fin 256) :
    (iblk m c 1 t (ix2 r k) : EReal) = V m c main_arg1 (ix2 (rowIx t r) k) := by
  unfold rowIx
  blk_ext! [iblk, idx t]

theorem blk2 (c : Dev nD) (t : Fin cfg0.N) (r : Fin 512) (k : Fin 256) :
    (iblk m c 2 t (ix2 r k) : EReal) = V m c main_arg2 (ix2 (rowIx t r) k) := by
  unfold rowIx
  blk_ext! [iblk, idx t]

theorem blk3 (c : Dev nD) (t : Fin cfg0.N) (r : Fin 512) (k : Fin 512) :
    (iblk m c 3 t (ix2 r k) : EReal) = V m c main_v9 (ix2 (rowIx t r) k) := by
  unfold rowIx
  blk_ext! [iblk, idx t]

theorem blk4 (c : Dev nD) (t : Fin cfg0.N) (r : Fin 512) (k : Fin 1024) :
    (iblk m c 4 t (ix2 r k) : EReal) = V m c main_arg4 (ix2 (rowIx t r) k) := by
  unfold rowIx
  blk_ext! [iblk, idx t]

theorem blk5 (c : Dev nD) (t : Fin cfg0.N) (k : Fin 768) :
    (iblk m c 5 t (ix2 0 k) : EReal) = V m c main_v11 (ix2 0 k) := by
  blk_ext! [iblk, idx t]

theorem blk6 (c : Dev nD) (t : Fin cfg0.N) (k : Fin 512) :
    (iblk m c 6 t (ix2 0 k) : EReal) = V m c main_v16 (ix2 0 k) := by
  blk_ext! [iblk, idx t]

theorem blk7 (c : Dev nD) (t : Fin cfg0.N) (k : Fin 1280) (l : Fin 1024) :
    (iblk m c 7 t (ix2 k l) : EReal) = V m c main_v6 (ix2 k l) := by
  blk_ext! [iblk, idx t]

/-! ## The result array -/

/-- The merge of row `i` of the arguments, at lane `l`. -/
def merged (c : Dev nD) (i : Fin 16384) (l : Fin 1024) : EReal :=
  Rows.mergeAt (m ((c : Thread nD τ).loc main_arg4) (ix2 i l)) (fun q => m ((c : Thread nD τ).loc main_arg0) (ix2 i q))
    (fun q => m ((c : Thread nD τ).loc main_arg1) (ix2 i q)) (fun q => m ((c : Thread nD τ).loc main_arg2) (ix2 i q))
    (fun q => m ((c : Thread nD τ).loc main_arg3) (ix2 i q)) (fun k => m ((c : Thread nD τ).loc main_arg5) (ix1 k))
    (fun k => m ((c : Thread nD τ).loc main_arg6) (ix2 k l))

theorem out_at (c : Dev nD) (t : Fin cfg0.N) (r : Fin 512) (l : Fin 1024) :
    out0_8 (iblk m c 0 t) (iblk m c 1 t) (iblk m c 2 t) (iblk m c 3 t) (iblk m c 4 t) (iblk m c 5 t) (iblk m c 6 t)
      (iblk m c 7 t) (ix2 r l) = merged m c (rowIx t r) l := by
  rw [out_apply]
  simp only [blk0, blk1, blk2, blk3, blk4, blk5, blk6, blk7, V_main_arg0, V_main_arg1, V_main_arg2, V_main_arg4,
    V_v9, V_v11, V_v16, V_v6]
  exact tile_eq _ _ _ _ _ _ _ _ _ _ _ (padY_low _ _) (padY_high _ _) (firstG_apply _) (padG_low _)
    (fun q => padW_first _ q l) (fun h d => padW_low _ h d l)

theorem final (c : Dev nD) (i : Fin 16384) (l : Fin 1024) :
    (dats m 0 c).arrAt 8 cfg0.N (ix2 i l) = merged m c i l := by
  have e : (dats m 0 c).arrAt 8 cfg0.N = fun j : S16384x1024.Idx => merged m c (j 0) (j 1) := by
    refine (dats m 0 c).arrAt_eq_of_covers 8 _ (by decide +kernel) fun t hf y => ?_
    obtain ⟨r, k, rfl⟩ : ∃ (a : Fin 512) (b : Fin 1024), y = ix2 a b := ⟨y 0, y 1, eq_ix2 y⟩
    have e0 : (((cfg0.win 8).blk t).view.emb (ix2 r k)) 0 = rowIx t r := by
      apply Fin.ext
      blk_simp [idx t]
      rfl
    have e1 : (((cfg0.win 8).blk t).view.emb (ix2 r k)) 1 = k := by
      apply Fin.ext
      blk_simp [idx t]
    rw [e0, e1]
    blk_simp
    rw [after0_8]
    exact out_at m c t r k
  rw [e]
  rfl

end Cert.MergeIdeal.Rowwise

end
-- ==== Proof.MergeRef.lean ====
/-
  What the reference of the merge computes at an index: the four mixers' rows side by side, each normalised over its
  256 entries, scaled by the gains and multiplied by the output matrix.
-/
module

public import proofs.«01_k».proof.Proof.Gen.MergeReferenceIdeal.Run
public import proofs.«01_k».proof.Proof.MergeMath
public import Idealize.ShloMosaic.Lib.Pointwise
public import Idealize.ShloMosaic.Lib.Tactic

@[expose] public section

set_option maxRecDepth 16384

noncomputable section

namespace Cert.MergeReferenceIdeal.Ref

open Idealize.ShloMosaic Idealize.ShloMosaic.TcCoe Idealize.SL.Sem
open Cert.MergeReferenceIdeal Cert.MergeReferenceIdeal.Gen Cert.MergeReferenceIdeal.Value

/-- The four mixers' rows side by side, cut into rows of 256 again, as printed. -/
def rows (ya yb yc yd : FVec Ideal S16384x256 .f32) : FVec Ideal S16384x4x256 .f32 :=
  shapeCast S16384x4x256 (concatenate S16384x1024 1 [⟨S16384x256, ya⟩, ⟨S16384x256, yb⟩, ⟨S16384x256, yc⟩, ⟨S16384x256, yd⟩]
    concatenates_S16384x256_S16384x256_S16384x256_S16384x256_S16384x1024_d1 : FVec Ideal S16384x1024 .f32)
    shapeCasts_S16384x1024_S16384x4x256

/-- Each row divided by the root of its mean square, as printed. -/
def normed (y : FVec Ideal S16384x4x256 .f32) : FVec Ideal S16384x4x256 .f32 :=
  mulf y (broadcastInDim S16384x4x256 ![0, 1, 2] bcast_S16384x4x1_S16384x4x256_0_1_2
    (Host.rsqrt (addf (Host.divf (broadcastInDim S16384x4x1 ![0, 1] bcast_S16384x4_S16384x4x1_0_1
      (Host.reduceAdd (mulf y y) (constant S_ .f32 0x00000000#32) reducesTo_S16384x4x256_S16384x4_d2 h_S_))
      (broadcastInDim S16384x4x1 ![] bcast_S_S16384x4x1 (constant S_ .f32 0x43800000#32)))
      (broadcastInDim S16384x4x1 ![] bcast_S_S16384x4x1 (constant S_ .f32 0x358637BD#32)))))

/-- The gains, the output matrix and the residual, as printed. -/
def project (x : FVec Ideal S16384x1024 .f32) (y : FVec Ideal S16384x4x256 .f32) (g : FVec Ideal S1024 .f32)
    (w : FVec Ideal S1024x1024 .f32) : FVec Ideal S16384x1024 .f32 :=
  addf x (Host.dotGeneral dot_S16384x1024_S1024x1024_S16384x1024_1_0_0_1_n_n none
    (mulf (shapeCast S16384x1024 y shapeCasts_S16384x4x256_S16384x1024)
      (broadcastInDim S16384x1024 ![0, 1] bcast_S1x1024_S16384x1024_0_1
        (broadcastInDim S1x1024 ![1] bcast_S1024_S1x1024_1 g))) w)

/-- The reference's result. -/
def out (ya yb yc yd : FVec Ideal S16384x256 .f32) (x : FVec Ideal S16384x1024 .f32) (g : FVec Ideal S1024 .f32)
    (w : FVec Ideal S1024x1024 .f32) : FVec Ideal S16384x1024 .f32 :=
  project x (normed (rows ya yb yc yd)) g w

theorem normed_apply (y : FVec Ideal S16384x4x256 .f32) (r : Fin 16384) (s : Fin 4) (q : Fin 256) :
    normed y (ix3 r s q) = (y (ix3 r s q) * Rows.scale (∑ k, y (ix3 r s k) * y (ix3 r s k)) : EReal) := by
  pointwise [normed, Rows.scale, Rows.div_256]

theorem project_apply (x : FVec Ideal S16384x1024 .f32) (y : FVec Ideal S16384x4x256 .f32) (g : FVec Ideal S1024 .f32)
    (w : FVec Ideal S1024x1024 .f32) (r : Fin 16384) (l : Fin 1024) :
    project x y g w (ix2 r l) = (x (ix2 r l) + ∑ k : Fin 1024,
      y (ix3 r (⟨k.val / 256, by omega⟩ : Fin 4) (⟨k.val % 256, by omega⟩ : Fin 256)) * g (ix1 k) * w (ix2 k l) : EReal) := by
  pointwise [project]

theorem rows_0 (ya yb yc yd : FVec Ideal S16384x256 .f32) (r : Fin 16384) (q : Fin 256) :
    rows ya yb yc yd (ix3 r 0 q) = ya (ix2 r q) := by
  pointwise [rows]

theorem rows_1 (ya yb yc yd : FVec Ideal S16384x256 .f32) (r : Fin 16384) (q : Fin 256) :
    rows ya yb yc yd (ix3 r 1 q) = yb (ix2 r q) := by
  pointwise [rows]

theorem rows_2 (ya yb yc yd : FVec Ideal S16384x256 .f32) (r : Fin 16384) (q : Fin 256) :
    rows ya yb yc yd (ix3 r 2 q) = yc (ix2 r q) := by
  pointwise [rows]
  rw [dif_neg (by omega), dif_neg (by omega), dif_pos (by omega)]
  exact congrArg (fun k => yc (ix2 r k)) (Fin.ext (by dsimp only; omega))

theorem rows_3 (ya yb yc yd : FVec Ideal S16384x256 .f32) (r : Fin 16384) (q : Fin 256) :
    rows ya yb yc yd (ix3 r 3 q) = yd (ix2 r q) := by
  pointwise [rows]
  rw [dif_neg (by omega), dif_neg (by omega), dif_neg (by omega)]
  exact congrArg (fun k => yd (ix2 r k)) (Fin.ext (by dsimp only; omega))

/-- The reference's result at an index. -/
theorem out_apply (ya yb yc yd : FVec Ideal S16384x256 .f32) (x : FVec Ideal S16384x1024 .f32) (g : FVec Ideal S1024 .f32)
    (w : FVec Ideal S1024x1024 .f32) (r : Fin 16384) (l : Fin 1024) :
    out ya yb yc yd x g w (ix2 r l) = Rows.mergeAt (x (ix2 r l)) (fun q => ya (ix2 r q)) (fun q => yb (ix2 r q))
      (fun q => yc (ix2 r q)) (fun q => yd (ix2 r q)) (fun k => g (ix1 k)) (fun k => w (ix2 k l)) := by
  unfold out
  rw [project_apply]
  unfold Rows.mergeAt
  congr 1
  refine (Rows.sum_three 256 _).trans ?_
  have e0 : ∀ q : Fin 256, (⟨q.val / 256, by omega⟩ : Fin 4) = 0 := fun q => Fin.ext (by show q.val / 256 = 0; omega)
  have e1 : ∀ q : Fin 256, (⟨(256 + q.val) / 256, by omega⟩ : Fin 4) = 1 := fun q => Fin.ext (by show (256 + q.val) / 256 = 1; omega)
  have e2 : ∀ q : Fin 256, (⟨(512 + q.val) / 256, by omega⟩ : Fin 4) = 2 := fun q => Fin.ext (by show (512 + q.val) / 256 = 2; omega)
  have e3 : ∀ q : Fin 256, (⟨(768 + q.val) / 256, by omega⟩ : Fin 4) = 3 := fun q => Fin.ext (by show (768 + q.val) / 256 = 3; omega)
  have f0 : ∀ q : Fin 256, (⟨q.val % 256, by omega⟩ : Fin 256) = q := fun q => Fin.ext (by dsimp only; omega)
  have f1 : ∀ q : Fin 256, (⟨(256 + q.val) % 256, by omega⟩ : Fin 256) = q := fun q => Fin.ext (by dsimp only; omega)
  have f2 : ∀ q : Fin 256, (⟨(512 + q.val) % 256, by omega⟩ : Fin 256) = q := fun q => Fin.ext (by dsimp only; omega)
  have f3 : ∀ q : Fin 256, (⟨(768 + q.val) % 256, by omega⟩ : Fin 256) = q := fun q => Fin.ext (by dsimp only; omega)
  simp only [e0, e1, e2, e3, f0, f1, f2, f3, normed_apply, rows_0, rows_1, rows_2, rows_3]
  rfl

end Cert.MergeReferenceIdeal.Ref

end
-- ==== Proof.MergeClaim.lean ====
/-
  The merge's claims: the frame of its reference, and that the kernel's array and the reference's array are the same
  function of the arguments.
-/
module

public import proofs.«01_k».proof.Defs
public import proofs.«01_k».proof.Proof.Gen.Merge.Frame
public import proofs.«01_k».proof.Proof.MergeValue
public import proofs.«01_k».proof.Proof.MergeRef
public import Idealize.ShloMosaic.Lib.Claim

@[expose] public section

noncomputable section

namespace Cert.Proof

open Idealize.ShloMosaic Idealize.ShloMosaic.TcCoe Idealize.SL.Sem

/-- The merge's reference runs, leaves its arguments and uses no semaphore. -/
theorem merge_reference_frame :
    quiescent_MergeReferenceIdeal (hMergeReferenceIdeal := Cert.MergeReferenceIdeal.Gen.facts) :=
  fun m ρ _ => (θ_run Cert.MergeReferenceIdeal.defs _ _).mono
    (fun r h => ⟨fun c => (h c).2, Idealize.ShloMosaic.sem_eq_zero_of_no_sems (by decide) r.2⟩)
    (Cert.MergeReferenceIdeal.Value.run (F := Ideal) m ρ)

/-- The merge kernel and its reference end with the same array. -/
theorem merge_algebraic : algebraic_MergeIdeal_MergeReferenceIdeal (hMergeIdeal := Cert.MergeIdeal.Gen.facts)
    (hMergeReferenceIdeal := Cert.MergeReferenceIdeal.Gen.facts) := by
  pair_intro
  · run_from Cert.MergeIdeal.Value.run_blocks m g
  · run_from Cert.MergeReferenceIdeal.Value.run m' g'
    funext j
    obtain ⟨r, l, rfl⟩ : ∃ a b, j = ix2 a b := ⟨j 0, j 1, eq_ix2 j⟩
    refine (Cert.MergeReferenceIdeal.Ref.out_apply _ _ _ _ _ _ _ r l).trans ?_
    exact (Cert.MergeIdeal.Rowwise.final m c r l).symm

end Cert.Proof

end
-- ==== Proof.MlpMidFold.lean ====
/-
  What the scratch arrays and the output of the feed-forward kernel without the last normalisation hold, point by point, as vector terms: the
  generated case terms (reset, step, last step) read back as the payloads that the body stores.
-/
module

public import proofs.«01_k».proof.Proof.Gen.MlpMidIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.MlpMidIdeal.Fold

open Idealize.ShloMosaic Idealize.ShloMosaic.TcCoe Idealize.SL.Sem
open Cert.MlpMidIdeal Cert.MlpMidIdeal.Gen Cert.MlpMidIdeal.Value

variable {F : FTy → Type} [FloatOps F]
variable (m : (ℓ : Loc nD τ sig) → Buf (Elt F) ℓ)

/-- At the first of a run's eight points the kernel writes the normalised rows into the first scratch array. -/
theorem h_reset (c : Dev nD) (t : Fin cfg0.N) (h0 : t.val % 8 = 0) :
    (outsAt0 m c t.val t.isLt).2.1 = k0_pay1 (iblk m c 0 t) (iblk m c 1 t) := by
  rw [outsAt0_A m c t h0 (by omega)]
  funext j
  frame_out

/-- There it leaves the first block's product in the second scratch array, added to zero. -/
theorem acc_reset (c : Dev nD) (t : Fin cfg0.N) (h0 : t.val % 8 = 0) :
    (outsAt0 m c t.val t.isLt).2.2
      = k0_pay3 (k0_pay1 (iblk m c 0 t) (iblk m c 1 t)) (iblk m c 2 t) (k0_pay2 (F := F)) (iblk m c 3 t) := by
  rw [outsAt0_A m c t h0 (by omega)]
  funext j
  frame_out

/-- At every other point the normalised rows stay. -/
theorem h_step (c : Dev nD) (n : ℕ) (hn : n + 1 < cfg0.N) (h0 : ¬(n + 1) % 8 = 0) :
    (outsAt0 m c (n + 1) hn).2.1 = (outsAt0 m c n (by omega)).2.1 := by
  by_cases h1 : (n + 1) % 8 = 7
  · rw [outsAt0_C m c ⟨n + 1, hn⟩ h0 h1]; rfl
  · rw [outsAt0_B m c ⟨n + 1, hn⟩ h0 h1]; rfl

/-- At every other point the block's product is added to the second scratch array. -/
theorem acc_step (c : Dev nD) (n : ℕ) (hn : n + 1 < cfg0.N) (h0 : ¬(n + 1) % 8 = 0) :
    (outsAt0 m c (n + 1) hn).2.2
      = k0_pay3 (outsAt0 m c n (by omega)).2.1 (iblk m c 2 ⟨n + 1, hn⟩) (outsAt0 m c n (by omega)).2.2
          (iblk m c 3 ⟨n + 1, hn⟩) := by
  by_cases h1 : (n + 1) % 8 = 7
  · rw [outsAt0_C m c ⟨n + 1, hn⟩ h0 h1]
    funext j
    frame_out
    simp only [read_unread_whole]
    rfl
  · rw [outsAt0_B m c ⟨n + 1, hn⟩ h0 h1]
    funext j
    frame_out
    simp only [read_unread_whole]
    rfl

/-- At the last of a run's eight points the output block gets the residual sum. -/
theorem out_last (c : Dev nD) (t : Fin cfg0.N) (h1 : t.val % 8 = 7) :
    (outsAt0 m c t.val t.isLt).1
      = k0_pay4 (iblk m c 0 t) (outsAt0 m c t.val t.isLt).2.2 := by
  rw [outsAt0_C m c t (by omega) h1]
  funext j
  frame_out

end Cert.MlpMidIdeal.Fold

end
-- ==== Proof.MlpMidValue.lean ====
/-
  What the result array of the feed-forward kernel without the last normalisation holds at an index: the eight blocks of hidden units that a run of
  grid points adds up are the whole sum over the 4096 hidden units.
-/
module

public import proofs.«01_k».proof.Proof.MlpMidFold
public import proofs.«01_k».proof.Proof.RowNorm
public import Idealize.ShloMosaic.Lib.Pipeline.ValueKit
public import Idealize.ShloMosaic.Lib.Pointwise
public import Idealize.ShloMosaic.Lib.Tactic

@[expose] public section

set_option maxRecDepth 16384

noncomputable section

namespace Cert.MlpMidIdeal.Fold

open Idealize.ShloMosaic Idealize.ShloMosaic.TcCoe Idealize.SL.Sem
open Cert.MlpMidIdeal Cert.MlpMidIdeal.Gen Cert.MlpMidIdeal.Value

variable (m : (ℓ : Loc nD τ sig) → Buf (Elt Ideal) ℓ)

/-! ## The payloads at an index -/

theorem pay1_apply (x : Vec Ideal S1024x1024 .f32) (g : Vec Ideal S1x1024 .f32) (r l : Fin 1024) :
    k0_pay1 x g (ix2 r l) = Rows.rowNorm (fun k => x (ix2 r k)) (fun k => g (ix2 0 k)) l := by
  pointwise [k0_pay1, Rows.rowNorm]

theorem pay2_apply (r l : Fin 1024) : (k0_pay2 (F := Ideal)) (ix2 r l) = (0 : EReal) := by
  pointwise [k0_pay2]

theorem pay3_apply (h : Vec Ideal S1024x1024 .bf16) (w1 : Vec Ideal S1024x512 .bf16) (a : Vec Ideal S1024x1024 .f32)
    (w2 : Vec Ideal S512x1024 .bf16) (r l : Fin 1024) :
    k0_pay3 h w1 a w2 (ix2 r l)
      = (a (ix2 r l) + ∑ q : Fin 512, Rows.hid (fun k => h (ix2 r k)) (fun k => w1 (ix2 k q)) * w2 (ix2 q l) : EReal) := by
  pointwise [k0_pay3, Rows.hid, Rows.sqRelu]

theorem pay4_apply (x a : Vec Ideal S1024x1024 .f32) (r l : Fin 1024) :
    k0_pay4 x a (ix2 r l) = (x (ix2 r l) + a (ix2 r l) : EReal) := by
  pointwise [k0_pay4]

/-! ## The blocks that a grid point reads -/

theorem idx : ∀ t : Fin cfg0.N, win0_0.index t = ![t.val / 8, 0] ∧ win0_1.index t = ![0, 0]
    ∧ win0_2.index t = ![0, t.val % 8] ∧ win0_3.index t = ![t.val % 8, 0] ∧ win0_4.index t = ![0, 0]
    ∧ win0_5.index t = ![t.val / 8, 0] :=
  (by decide +kernel : ∀ t : Fin grid0.N, _)

theorem div_lt (t : Fin cfg0.N) : t.val / 8 < 16 := by
  have := lt_of_lt_of_eq t.isLt (show cfg0.N = 128 from N_0); omega

theorem blk0 (c : Dev nD) (t : Fin cfg0.N) (r k : Fin 1024) :
    (iblk m c 0 t (ix2 r k) : EReal)
      = m ((c : Thread nD τ).loc main_arg0) (ix2 (⟨t.val / 8 * 1024 + r.val, by have := div_lt t; omega⟩ : Fin 16384) k) := by
  blk_ext! [iblk, V, idx t]

theorem blk1 (c : Dev nD) (t : Fin cfg0.N) (k : Fin 1024) :
    (iblk m c 1 t (ix2 (0 : Fin 1) k) : EReal) = m ((c : Thread nD τ).loc main_arg1) (ix1 k) := by
  blk_ext! [iblk, V, idx t]

theorem blk2 (c : Dev nD) (t : Fin cfg0.N) (k : Fin 1024) (q : Fin 512) :
    (iblk m c 2 t (ix2 k q) : EReal)
      = m ((c : Thread nD τ).loc main_arg2) (ix2 k (⟨t.val % 8 * 512 + q.val, by omega⟩ : Fin 4096)) := by
  blk_ext! [iblk, V, idx t]

theorem blk3 (c : Dev nD) (t : Fin cfg0.N) (q : Fin 512) (k : Fin 1024) :
    (iblk m c 3 t (ix2 q k) : EReal)
      = m ((c : Thread nD τ).loc main_arg3) (ix2 (⟨t.val % 8 * 512 + q.val, by omega⟩ : Fin 4096) k) := by
  blk_ext! [iblk, V, idx t]

/-! ## The arrays after each point -/

/-- Row `r` of row block `b`, as a row of the whole array. -/
def rowIx (b : ℕ) (r : Fin 1024) : Fin 16384 := ⟨(b * 1024 + r.val) % 16384, Nat.mod_lt _ (by decide)⟩

/-- Hidden unit `q` of block `s` of hidden units. -/
def hidIx (s : ℕ) (q : Fin 512) : Fin 4096 := ⟨(s * 512 + q.val) % 4096, Nat.mod_lt _ (by decide)⟩

/-- The argument rows and matrices. -/
abbrev xRow (c : Dev nD) (i : Fin 16384) : Fin 1024 → EReal := fun k => m ((c : Thread nD τ).loc main_arg0) (ix2 i k)
abbrev gRow (c : Dev nD) : Fin 1024 → EReal := fun k => m ((c : Thread nD τ).loc main_arg1) (ix1 k)
abbrev w1At (c : Dev nD) : Fin 1024 → Fin 4096 → EReal := fun k f => m ((c : Thread nD τ).loc main_arg2) (ix2 k f)
abbrev w2At (c : Dev nD) : Fin 4096 → Fin 1024 → EReal := fun f k => m ((c : Thread nD τ).loc main_arg3) (ix2 f k)

theorem blk0' (c : Dev nD) (t : Fin cfg0.N) (r k : Fin 1024) :
    (iblk m c 0 t (ix2 r k) : EReal) = xRow m c (rowIx (t.val / 8) r) k := by
  rw [blk0]
  have := div_lt t
  refine congrArg (fun i => xRow m c i k) (Fin.ext ?_)
  exact (Nat.mod_eq_of_lt (by omega)).symm

theorem blk2' (c : Dev nD) (t : Fin cfg0.N) (k : Fin 1024) (q : Fin 512) :
    (iblk m c 2 t (ix2 k q) : EReal) = w1At m c k (hidIx (t.val % 8) q) := by
  rw [blk2]
  refine congrArg (fun i => w1At m c k i) (Fin.ext ?_)
  exact (Nat.mod_eq_of_lt (by omega)).symm

theorem blk3' (c : Dev nD) (t : Fin cfg0.N) (q : Fin 512) (k : Fin 1024) :
    (iblk m c 3 t (ix2 q k) : EReal) = w2At m c (hidIx (t.val % 8) q) k := by
  rw [blk3]
  refine congrArg (fun i => w2At m c i k) (Fin.ext ?_)
  exact (Nat.mod_eq_of_lt (by omega)).symm

/-- After every point the first scratch array holds the normalised rows of the point's row block. -/
theorem h_at (c : Dev nD) : ∀ (n : ℕ) (hn : n < cfg0.N) (r l : Fin 1024),
    (outsAt0 m c n hn).2.1 (ix2 r l) = Rows.rowNorm (xRow m c (rowIx (n / 8) r)) (gRow m c) l := by
  intro n
  induction n with
  | zero =>
    intro hn r l
    rw [h_reset m c ⟨0, hn⟩ rfl, pay1_apply]
    simp only [blk0', blk1]
  | succ n ih =>
    intro hn r l
    by_cases h0 : (n + 1) % 8 = 0
    · rw [h_reset m c ⟨n + 1, hn⟩ h0, pay1_apply]
      simp only [blk0', blk1]
    · rw [h_step m c n hn h0, ih (by omega) r l, show (n + 1) / 8 = n / 8 by omega]

/-- What block `s` of the hidden units adds to entry `l` of row `r` of row block `b`. -/
def term (c : Dev nD) (r l : Fin 1024) (b s : ℕ) : EReal :=
  ∑ q : Fin 512, Rows.hid (Rows.rowNorm (xRow m c (rowIx b r)) (gRow m c)) (fun k => w1At m c k (hidIx s q))
    * w2At m c (hidIx s q) l

/-- After every point the second scratch array holds the sum of the blocks met so far in the run. -/
theorem acc_at (c : Dev nD) (t : Fin cfg0.N) (r l : Fin 1024) :
    ((outsAt0 m c t.val t.isLt).2.2 (ix2 r l) : EReal)
      = 0 + ∑ s ∈ Finset.range (t.val % 8 + 1), term m c r l (t.val / 8) s := by
  refine Pipeline.eq_sum_of_reset_step_divmod (M := EReal) (fun n h => (outsAt0 m c n h).2.2 (ix2 r l)) 8 0
    (term m c r l) (fun t h0 => ?_) (fun t h0 => ?_) t
  · rw [acc_reset m c t h0, pay3_apply, pay2_apply]
    simp only [pay1_apply, blk0', blk1, blk2', blk3']
    rfl
  · obtain ⟨n, hn⟩ := t
    obtain ⟨n, rfl⟩ : ∃ k, n = k + 1 := ⟨n - 1, by have : n ≠ 0 := (by rintro rfl; exact h0 rfl); omega⟩
    dsimp only
    rw [acc_step m c n hn h0, pay3_apply]
    have e : (n + 1) / 8 = n / 8 := by dsimp only at h0; omega
    simp only [h_at, blk2', blk3', term, e, Nat.add_sub_cancel]

/-- At the last point of a run that is the whole sum over the hidden units. -/
theorem acc_last (c : Dev nD) (t : Fin cfg0.N) (h7 : t.val % 8 = 7) (r l : Fin 1024) :
    ((outsAt0 m c t.val t.isLt).2.2 (ix2 r l) : EReal)
      = ∑ f : Fin 4096, Rows.hid (Rows.rowNorm (xRow m c (rowIx (t.val / 8) r)) (gRow m c)) (fun k => w1At m c k f)
          * w2At m c f l := by
  rw [acc_at, h7, zero_add, Finset.sum_range]
  refine Fin.sum_mul_add_congr (S := 8) (n := 512) fun s q hl => ?_
  have e : hidIx s.val q = ⟨s.val * 512 + q.val, hl⟩ := Fin.ext (Nat.mod_eq_of_lt hl)
  rw [e]

/-- What the last point of a run writes back. -/
theorem out_at (c : Dev nD) (t : Fin cfg0.N) (h7 : t.val % 8 = 7) (r l : Fin 1024) :
    (outsAt0 m c t.val t.isLt).1 (ix2 r l)
      = Rows.mlpResid (xRow m c (rowIx (t.val / 8) r)) (gRow m c) (w1At m c) (w2At m c) l := by
  rw [out_last m c t h7, pay4_apply]
  simp only [acc_last m c t h7, blk0']
  rfl

/-- The result array after the run. -/
theorem final (c : Dev nD) (i : Fin 16384) (l : Fin 1024) :
    (dats m 0 c).arrAt 5 cfg0.N (ix2 i l)
      = Rows.mlpResid (xRow m c i) (gRow m c) (w1At m c) (w2At m c) l := by
  have e : (dats m 0 c).arrAt 5 cfg0.N = fun j : S16384x1024.Idx =>
      Rows.mlpResid (xRow m c (j 0)) (gRow m c) (w1At m c) (w2At m c) (j 1) := by
    refine (dats m 0 c).arrAt_eq_of_covers 5 _ (by decide +kernel) fun t hf y => ?_
    have h7 : t.val % 8 = 7 := (flush0_5 t).mp hf
    obtain ⟨r, k, rfl⟩ : ∃ (a : Fin 1024) (b : Fin 1024), y = ix2 a b := ⟨y 0, y 1, eq_ix2 y⟩
    have hd := div_lt t
    have e0 : (((cfg0.win 5).blk t).view.emb (ix2 r k)) 0 = rowIx (t.val / 8) r := by
      apply Fin.ext
      blk_simp [idx t]
      show _ = (_ % 16384)
      rw [Nat.mod_eq_of_lt (by omega)]
    have e1 : (((cfg0.win 5).blk t).view.emb (ix2 r k)) 1 = k := by
      apply Fin.ext
      blk_simp [idx t]
    rw [e0, e1]
    blk_simp
    rw [after0_5]
    exact out_at m c t h7 r k
  rw [e]
  rfl

end Cert.MlpMidIdeal.Fold

end
-- ==== Proof.MlpMidRef.lean ====
/-
  What the feed-forward reference without the last normalisation computes at an index: the row normalisation, the
  squared hidden row and the two products, as sums of extended reals.
-/
module

public import proofs.«01_k».proof.Proof.Gen.MlpMidReferenceIdeal.Run
public import proofs.«01_k».proof.Proof.RowNorm
public import Idealize.ShloMosaic.Lib.Pointwise
public import Idealize.ShloMosaic.Lib.Tactic

@[expose] public section

set_option maxRecDepth 16384

noncomputable section

namespace Cert.MlpMidReferenceIdeal.Ref

open Idealize.ShloMosaic Idealize.ShloMosaic.TcCoe Idealize.SL.Sem
open Cert.MlpMidReferenceIdeal Cert.MlpMidReferenceIdeal.Gen Cert.MlpMidReferenceIdeal.Value

/-- The reference's row normalisation, as printed. -/
def norm (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 g))

/-- The reference's hidden layer, as printed: the product with the first matrix, its positive part squared. -/
def hidden (h : FVec Ideal S16384x1024 .f32) (w : FVec Ideal S1024x4096 .f32) : FVec Ideal S16384x4096 .f32 :=
  mulf (maximumf (Host.dotGeneral dot_S16384x1024_S1024x4096_S16384x4096_1_0_0_1_n_n none h w)
      (broadcastInDim S16384x4096 ![] bcast_S_S16384x4096 (constant S_ .f32 0x00000000#32)))
    (maximumf (Host.dotGeneral dot_S16384x1024_S1024x4096_S16384x4096_1_0_0_1_n_n none h w)
      (broadcastInDim S16384x4096 ![] bcast_S_S16384x4096 (constant S_ .f32 0x00000000#32)))

/-- The reference's residual sum, as printed. -/
def resid (x : FVec Ideal S16384x1024 .f32) (a : FVec Ideal S16384x4096 .f32) (w : FVec Ideal S4096x1024 .f32) :
    FVec Ideal S16384x1024 .f32 :=
  addf x (Host.dotGeneral dot_S16384x4096_S4096x1024_S16384x1024_1_0_0_1_n_n none a w)

theorem norm_apply (x : FVec Ideal S16384x1024 .f32) (g : FVec Ideal S1024 .f32) (r : Fin 16384) (l : Fin 1024) :
    norm x g (ix2 r l) = Rows.rowNorm (fun k => x (ix2 r k)) (fun k => g (ix1 k)) l := by
  pointwise [norm, Rows.rowNorm, Rows.div_1024]

theorem hidden_apply (h : FVec Ideal S16384x1024 .f32) (w : FVec Ideal S1024x4096 .f32) (r : Fin 16384)
    (f : Fin 4096) : hidden h w (ix2 r f) = Rows.hid (fun k => h (ix2 r k)) (fun k => w (ix2 k f)) := by
  pointwise [hidden, Rows.hid, Rows.sqRelu]

theorem resid_apply (x : FVec Ideal S16384x1024 .f32) (a : FVec Ideal S16384x4096 .f32)
    (w : FVec Ideal S4096x1024 .f32) (r : Fin 16384) (l : Fin 1024) :
    resid x a w (ix2 r l) = x (ix2 r l) + ∑ f, a (ix2 r f) * w (ix2 f l) := by
  pointwise [resid]

/-- The reference's result, by stages. -/
def result (x : FVec Ideal S16384x1024 .f32) (g : FVec Ideal S1024 .f32) (w1 : FVec Ideal S1024x4096 .f32)
    (w2 : FVec Ideal S4096x1024 .f32) : FVec Ideal S16384x1024 .f32 :=
  resid x (hidden (norm x g) w1) w2

/-- The reference's result at an index. -/
theorem result_apply (x : FVec Ideal S16384x1024 .f32) (g : FVec Ideal S1024 .f32) (w1 : FVec Ideal S1024x4096 .f32)
    (w2 : FVec Ideal S4096x1024 .f32) (r : Fin 16384) (l : Fin 1024) :
    (result x g w1 w2 (ix2 r l) : EReal) = Rows.mlpResid (fun k => x (ix2 r k)) (fun k => g (ix1 k))
      (fun k f => w1 (ix2 k f)) (fun f k => w2 (ix2 f k)) l := by
  unfold result
  rw [resid_apply]
  simp only [hidden_apply, norm_apply]
  rfl

end Cert.MlpMidReferenceIdeal.Ref

end
-- ==== Proof.MlpMidClaim.lean ====
/-
  The claims of the feed-forward call without the last normalisation: the frame of its reference, and that the kernel's array and the reference's array are the same
  function of the arguments.
-/
module

public import proofs.«01_k».proof.Defs
public import proofs.«01_k».proof.Proof.Gen.MlpMid.Frame
public import proofs.«01_k».proof.Proof.MlpMidValue
public import proofs.«01_k».proof.Proof.MlpMidRef
public import Idealize.ShloMosaic.Lib.Claim

@[expose] public section

noncomputable section

namespace Cert.Proof

open Idealize.ShloMosaic Idealize.ShloMosaic.TcCoe Idealize.SL.Sem

/-- This reference runs, leaves its arguments and uses no semaphore. -/
theorem mlp_mid_reference_frame :
    quiescent_MlpMidReferenceIdeal (hMlpMidReferenceIdeal := Cert.MlpMidReferenceIdeal.Gen.facts) :=
  fun m ρ _ => (θ_run Cert.MlpMidReferenceIdeal.defs _ _).mono
    (fun r h => ⟨fun c => (h c).2, Idealize.ShloMosaic.sem_eq_zero_of_no_sems (by decide) r.2⟩)
    (Cert.MlpMidReferenceIdeal.Value.run (F := Ideal) m ρ)

/-- This kernel and its reference end with the same array. -/
theorem mlp_mid_algebraic : algebraic_MlpMidIdeal_MlpMidReferenceIdeal (hMlpMidIdeal := Cert.MlpMidIdeal.Gen.facts)
    (hMlpMidReferenceIdeal := Cert.MlpMidReferenceIdeal.Gen.facts) := by
  pair_intro
  · run_from Cert.MlpMidIdeal.Value.run_blocks m g
  · run_from Cert.MlpMidReferenceIdeal.Value.run m' g'
    funext j
    obtain ⟨r, l, rfl⟩ : ∃ a b, j = ix2 a b := ⟨j 0, j 1, eq_ix2 j⟩
    refine (Cert.MlpMidReferenceIdeal.Ref.result_apply _ _ _ _ r l).trans ?_
    exact (Cert.MlpMidIdeal.Fold.final m c r l).symm

end Cert.Proof

end
-- ==== Proof.SguMath.lean ====
/-
  The spatial gating unit as extended reals: the gate's rows, passed through gelu and normalised, are mixed within each
  chunk of 128 positions by the lower triangle of a head's matrix, a bias is added, and the other half multiplies it.
  The kernel stacks the four heads' rows, each zero off its own lanes; the lemma on sums says that a lane sees only its
  own head's matrix.
-/
module

public import proofs.«01_k».proof.Proof.MergeMath

@[expose] public section

noncomputable section

namespace Cert.Sgu

open Idealize.ShloMosaic

/-- The tanh form of gelu. -/
def gelu (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * (a * a))))))

/-- The gate's normalised entry: the row `z` through gelu, normalised and scaled by `g`, at lane `l`. -/
def gate (z g : Fin 256 → EReal) (l : Fin 256) : EReal := Rows.seg (fun q => gelu (z q)) g l

/-- One result: position `t` of a chunk at lane `l`, from the other half's entry `u`, the chunk's rows `z`, the gains
    `g`, row `t` of the head's matrix and its bias. -/
def unit (u : EReal) (z : Fin 128 → Fin 256 → EReal) (g : Fin 256 → EReal) (w : Fin 128 → EReal) (b : EReal)
    (t : Fin 128) (l : Fin 256) : EReal :=
  gelu u * ((∑ s : Fin 128, (if s.val ≤ t.val then w s else 0) * gate (z s) g l) + b)

/-- Of four heads' stacked rows, the lane's own head alone adds to the sum. -/
theorem sum_head (f : Fin 512 → EReal) (v : Fin 128 → EReal) (h : Fin 4) :
    ∑ q : Fin 512, f q * (if h.val = q.val / 128 then v ⟨q.val % 128, by omega⟩ else 0)
      = ∑ s : Fin 128, f ⟨h.val * 128 + s.val, by omega⟩ * v s := by
  refine (Fin.sum_mul_add_congr (S := 4) (n := 128)
    (F := fun k s => f ⟨k.val * 128 + s.val, by omega⟩ * (if h = k then v s else 0)) fun k s hl => ?_).symm.trans ?_
  · have e1 : (k.val * 128 + s.val) / 128 = k.val := by omega
    have e2 : (k.val * 128 + s.val) % 128 = s.val := by omega
    simp only [e1, e2, Fin.ext_iff]
  · refine (Finset.sum_eq_single h (fun k _ hk => ?_) (fun hh => absurd (Finset.mem_univ h) hh)).trans ?_
    · refine Finset.sum_eq_zero fun s _ => ?_
      rw [if_neg (Ne.symm hk), mul_zero]
    · refine Finset.sum_congr rfl fun s _ => ?_
      rw [if_pos rfl]

end Cert.Sgu

end
-- ==== Proof.SguBlock.lean ====
/-
  What one tile of the spatial gating kernel computes: its rows through gelu, the masks of lanes and positions, and a
  chunk's four stacked heads through the matrix product.
-/
module

public import proofs.«01_k».proof.Proof.Gen.SguIdeal.Value
public import proofs.«01_k».proof.Proof.SguMath
public import Idealize.ShloMosaic.Lib.Pipeline.ValueKit
public import Idealize.ShloMosaic.Lib.Pointwise
public import Idealize.ShloMosaic.Lib.Tactic
public import Idealize.ShloMosaic.Lib.WordCmp

@[expose] public section

set_option maxRecDepth 16384

noncomputable section

namespace Cert.SguIdeal.Chunks

open Idealize.ShloMosaic Idealize.ShloMosaic.TcCoe Idealize.SL.Sem
open Cert.SguIdeal Cert.SguIdeal.Gen Cert.SguIdeal.Value

/-! ## The tile's rows -/

theorem pay2_apply (z : Vec Ideal S512x256 .f32) (r : Fin 512) (l : Fin 256) :
    k0_pay2 z (ix2 r l) = Sgu.gelu (z (ix2 r l)) := by
  pointwise [k0_pay2, Sgu.gelu]

/-- The normalisation of the gate's rows, as printed. -/
def normed (y : FVec Ideal S512x256 .f32) (g : Vec Ideal S1x256 .f32) : FVec Ideal S512x256 .f32 :=
  mulf (mulf y (broadcastTo S512x256 (rsqrt (addf (mulf (shapeCast S512x1
    (multiReduction .add [1] S512 (mulf y y) 0x00000000#32 reduces_S512x256_S512 (.inl rfl) rfl : FVec Ideal S512 .f32)
      shapeCasts_S512_S512x1) (broadcast S512x1 (Scalar.ofBits .f32 0x3B800000#32)))
      (broadcast S512x1 (Scalar.ofBits .f32 0x358637BD#32)))) broadcasts_S512x1_S512x256))
    (broadcastTo S512x256 (shapeCast S1x256 g shapeCasts_S1x256_S1x256 : FVec Ideal S1x256 .f32) broadcasts_S1x256_S512x256)

theorem pay3_eq (z : Vec Ideal S512x256 .f32) (g : Vec Ideal S1x256 .f32) :
    k0_pay3 z g = normed (k0_pay2 z) g := rfl

theorem normed_apply (y : FVec Ideal S512x256 .f32) (g : Vec Ideal S1x256 .f32) (r : Fin 512) (l : Fin 256) :
    normed y g (ix2 r l) = Rows.seg (fun k => y (ix2 r k)) (fun k => g (ix2 0 k)) l := by
  pointwise [normed, Rows.seg, Rows.scale]

theorem pay3_apply (z : Vec Ideal S512x256 .f32) (g : Vec Ideal S1x256 .f32) (r : Fin 512) (l : Fin 256) :
    k0_pay3 z g (ix2 r l) = Sgu.gate (fun k => z (ix2 r k)) (fun k => g (ix2 0 k)) l := by
  rw [pay3_eq, normed_apply]
  simp only [pay2_apply]
  rfl

/-! ## The masks -/

/-- The head of a lane: the lane's number over 64. -/
theorem pay4_apply (s : Fin 128) (l : Fin 256) : k0_pay4 (ix2 s l) = BitVec.ofNat 32 (l.val / 64) := by
  pointwise [k0_pay4]
  revert l
  decide +kernel

/-- A column's position in its head's matrix, as printed. -/
def seat (q : BitVec 32) : BitVec 32 :=
  have n := Scalar.select (Scalar.cmpi .eq 128#32 0#32) 1#32 128#32
  Scalar.select (IntOp.andi (IntOp.xori (IntOp.cmpi .slt (IntOp.remsi .vector q n) 0#32) (Scalar.cmpi .slt n 0#32))
    (IntOp.cmpi .ne (IntOp.remsi .vector q n) 0#32)) (IntOp.addi (IntOp.remsi .vector q n) n) (IntOp.remsi .vector q n)

theorem seat_eq : ∀ q : Fin 512, seat (BitVec.ofNat 32 q.val) = BitVec.ofNat 32 (q.val % 128) := by
  decide +kernel

/-- The positions of a head's matrix that a position sees. -/
theorem pay5_apply (t : Fin 128) (q : Fin 512) :
    k0_pay5 (ix2 t q) = BitVec.ofBool (decide (q.val % 128 ≤ t.val)) := by
  pointwise [k0_pay5]
  refine (congrArg (fun x => IntOp.cmpi .sle x (BitVec.ofNat 32 t.val)) (seat_eq q)).trans ?_
  exact WordCmp.cmpi_sle_ofNat (by omega) (by omega)

theorem pay6_apply (mask : IVec S128x512 1) (w : Vec Ideal S128x512 .f32) (t : Fin 128) (q : Fin 512) :
    k0_pay6 mask w (ix2 t q) = (if mask (ix2 t q) = 1#1 then w (ix2 t q) else 0 : EReal) := by
  pointwise [k0_pay6]
  by_cases e : mask (ix2 t q) = 1#1
  · rw [if_pos e, e]; rfl
  · rw [if_neg e]; exact if_neg e

theorem pay7_apply (b : Vec Ideal S128x256 .f32) (t : Fin 128) (l : Fin 256) :
    k0_pay7 b (ix2 t l) = b (ix2 t l) := by
  pointwise [k0_pay7]

/-! ## A chunk -/

/-- A chunk's rows off head `k`'s lanes zero, as printed. -/
def headed (v : FVec Ideal S128x256 .f32) (lane : IVec S128x256 32) (k : BitVec 32) : FVec Ideal S128x256 .f32 :=
  select (cmpi .eq lane (broadcast S128x256 k)) v (broadcast S128x256 (Scalar.ofBits .f32 0x00000000#32 : Ideal .f32))

/-- Four heads' rows one over the other, as printed. -/
def stacked (a b c d : FVec Ideal S128x256 .f32) : FVec Ideal S512x256 .f32 :=
  concatenate S512x256 0 [⟨S128x256, a⟩, ⟨S128x256, b⟩, ⟨S128x256, c⟩, ⟨S128x256, d⟩]
    concatenates_S128x256_S128x256_S128x256_S128x256_S512x256_d0

/-- A chunk's mixing, bias and gating, as printed. -/
def mixed (u : FVec Ideal S128x256 .f32) (w : FVec Ideal S128x512 .bf16) (v : FVec Ideal S512x256 .f32)
    (b : FVec Ideal S128x256 .f32) : FVec Ideal S128x256 .f32 :=
  mulf u (addf (matmul dot_S128x512_S512x256_S128x256_1_0_0_1_n_n none w (truncf .bf16 v bitsLt_bf16_f32)
    (constant S128x256 .f32 0x00000000#32)) b)

/-- A chunk's result from its slices. -/
def chunk (u v : FVec Ideal S128x256 .f32) (lane : IVec S128x256 32) (w : FVec Ideal S128x512 .bf16)
    (b : FVec Ideal S128x256 .f32) : FVec Ideal S128x256 .f32 :=
  mixed u w (stacked (headed v lane 0#32) (headed v lane 1#32) (headed v lane 2#32) (headed v lane 3#32)) b

/-- The four chunks of a tile, as printed. -/
def cut0 (x : FVec Ideal S512x256 .f32) : FVec Ideal S128x256 .f32 :=
  extractStridedSlice S128x256 ![0, 0] x slices_S512x256_o0_0_S128x256
def cut1 (x : FVec Ideal S512x256 .f32) : FVec Ideal S128x256 .f32 :=
  extractStridedSlice S128x256 ![128, 0] x slices_S512x256_o128_0_S128x256
def cut2 (x : FVec Ideal S512x256 .f32) : FVec Ideal S128x256 .f32 :=
  extractStridedSlice S128x256 ![256, 0] x slices_S512x256_o256_0_S128x256
def cut3 (x : FVec Ideal S512x256 .f32) : FVec Ideal S128x256 .f32 :=
  extractStridedSlice S128x256 ![384, 0] x slices_S512x256_o384_0_S128x256

section Printed
variable (u v : FVec Ideal S512x256 .f32) (lane : IVec S128x256 32) (mask : IVec S128x512 1)
  (wf : Vec Ideal S128x512 .f32) (bf : Vec Ideal S128x256 .f32) (w : FVec Ideal S128x512 .bf16)
  (b : FVec Ideal S128x256 .f32)

theorem pay8_eq : k0_pay8 u v lane mask wf bf = chunk (cut0 u) (cut0 v) lane (k0_pay6 mask wf) (k0_pay7 bf) := rfl

theorem pay13_eq : k0_pay13 u lane w b (k0_pay9 v) (k0_pay10 v lane) (k0_pay11 v lane) k0_pay12
    = chunk (cut1 u) (cut1 v) lane w b := rfl

theorem pay14_eq : k0_pay14 u v lane w b = chunk (cut2 u) (cut2 v) lane w b := rfl

theorem pay1_eq : k0_pay1 u lane w b (k0_pay15 v) k0_pay16 = chunk (cut3 u) (cut3 v) lane w b := rfl

end Printed

section Cuts
variable (x : FVec Ideal S512x256 .f32) (s : Fin 128) (l : Fin 256)

theorem cut0_apply : cut0 x (ix2 s l) = x (ix2 (⟨s.val, by omega⟩ : Fin 512) l) := by pointwise [cut0]
theorem cut1_apply : cut1 x (ix2 s l) = x (ix2 (⟨128 + s.val, by omega⟩ : Fin 512) l) := by pointwise [cut1]
theorem cut2_apply : cut2 x (ix2 s l) = x (ix2 (⟨256 + s.val, by omega⟩ : Fin 512) l) := by pointwise [cut2]
theorem cut3_apply : cut3 x (ix2 s l) = x (ix2 (⟨384 + s.val, by omega⟩ : Fin 512) l) := by pointwise [cut3]

end Cuts

theorem headed_apply (v : FVec Ideal S128x256 .f32) (lane : IVec S128x256 32) (k : BitVec 32) (s : Fin 128) (l : Fin 256) :
    headed v lane k (ix2 s l) = (if lane (ix2 s l) = k then v (ix2 s l) else 0 : EReal) := by
  pointwise [headed]
  rw [WordCmp.cmpi_eq_eq]
  by_cases e : lane (ix2 s l) = k
  · rw [if_pos e, decide_eq_true e]; rfl
  · rw [if_neg e, decide_eq_false e]; rfl

theorem stacked_apply (a b c d : FVec Ideal S128x256 .f32) (q : Fin 512) (l : Fin 256) :
    stacked a b c d (ix2 q l) = (if q.val / 128 = 0 then a (ix2 (⟨q.val % 128, by omega⟩ : Fin 128) l)
      else if q.val / 128 = 1 then b (ix2 (⟨q.val % 128, by omega⟩ : Fin 128) l)
      else if q.val / 128 = 2 then c (ix2 (⟨q.val % 128, by omega⟩ : Fin 128) l)
      else d (ix2 (⟨q.val % 128, by omega⟩ : Fin 128) l) : EReal) := by
  pointwise [stacked]
  by_cases h0 : q.val < 128
  · rw [dif_pos h0, if_pos (show q.val / 128 = 0 by omega)]
    exact congrArg (fun k => a (ix2 k l)) (Fin.ext (show q.val = q.val % 128 by omega))
  rw [if_neg (show ¬q.val / 128 = 0 by omega), dif_neg h0]
  by_cases h1 : q.val < 256
  · rw [if_pos (show q.val / 128 = 1 by omega), dif_pos (show q.val - 128 < 128 by omega)]
    exact congrArg (fun k => b (ix2 k l)) (Fin.ext (show q.val - 128 = q.val % 128 by omega))
  rw [if_neg (show ¬q.val / 128 = 1 by omega), dif_neg (show ¬q.val - 128 < 128 by omega)]
  by_cases h2 : q.val < 384
  · rw [if_pos (show q.val / 128 = 2 by omega), dif_pos (show q.val - 128 - 128 < 128 by omega)]
    exact congrArg (fun k => c (ix2 k l)) (Fin.ext (show q.val - 128 - 128 = q.val % 128 by omega))
  · rw [if_neg (show ¬q.val / 128 = 2 by omega), dif_neg (show ¬q.val - 128 - 128 < 128 by omega)]
    exact congrArg (fun k => d (ix2 k l)) (Fin.ext (show q.val - 128 - 128 - 128 = q.val % 128 by omega))

theorem mixed_apply (u : FVec Ideal S128x256 .f32) (w : FVec Ideal S128x512 .bf16) (v : FVec Ideal S512x256 .f32)
    (b : FVec Ideal S128x256 .f32) (t : Fin 128) (l : Fin 256) :
    mixed u w v b (ix2 t l) = (u (ix2 t l) * ((∑ q : Fin 512, w (ix2 t q) * v (ix2 q l)) + b (ix2 t l)) : EReal) := by
  pointwise [mixed]

/-- The stacked rows: entry `q` of a lane is its position's where the lane is of `q`'s head, else zero. -/
theorem stacked_heads (v : FVec Ideal S128x256 .f32) (q : Fin 512) (l : Fin 256) :
    stacked (headed v k0_pay4 0#32) (headed v k0_pay4 1#32) (headed v k0_pay4 2#32) (headed v k0_pay4 3#32) (ix2 q l)
      = (if l.val / 64 = q.val / 128 then v (ix2 (⟨q.val % 128, by omega⟩ : Fin 128) l) else 0 : EReal) := by
  have key : ∀ k : Fin 4, headed v k0_pay4 (BitVec.ofNat 32 k.val) (ix2 (⟨q.val % 128, by omega⟩ : Fin 128) l)
      = (if l.val / 64 = k.val then v (ix2 (⟨q.val % 128, by omega⟩ : Fin 128) l) else 0 : EReal) := fun k => by
    rw [headed_apply, pay4_apply]
    have e : (BitVec.ofNat 32 (l.val / 64) = BitVec.ofNat 32 k.val) ↔ l.val / 64 = k.val := by
      constructor
      · intro h
        have := congrArg BitVec.toNat h
        rw [BitVec.toNat_ofNat, BitVec.toNat_ofNat, Nat.mod_eq_of_lt (by omega), Nat.mod_eq_of_lt (by omega)] at this
        exact this
      · intro h; rw [h]
    simp only [e]
  rw [stacked_apply]
  by_cases h0 : q.val / 128 = 0
  · rw [if_pos h0, h0]; exact key 0
  by_cases h1 : q.val / 128 = 1
  · rw [if_neg h0, if_pos h1, h1]; exact key 1
  by_cases h2 : q.val / 128 = 2
  · rw [if_neg h0, if_neg h1, if_pos h2, h2]; exact key 2
  · have h3 : q.val / 128 = 3 := by omega
    rw [if_neg h0, if_neg h1, if_neg h2, h3]; exact key 3

/-- A chunk's result at an index: the lane's own head's matrix below the diagonal. -/
theorem chunk_apply (u v : FVec Ideal S128x256 .f32) (w : Vec Ideal S128x512 .f32) (b : Vec Ideal S128x256 .f32)
    (t : Fin 128) (l : Fin 256) :
    chunk u v k0_pay4 (k0_pay6 k0_pay5 w) (k0_pay7 b) (ix2 t l)
      = (u (ix2 t l) * ((∑ s : Fin 128, (if s.val ≤ t.val then
          w (ix2 t (⟨l.val / 64 * 128 + s.val, by omega⟩ : Fin 512)) else 0) * v (ix2 s l)) + b (ix2 t l)) : EReal) := by
  unfold chunk
  rw [mixed_apply, pay7_apply]
  congr 2
  simp only [stacked_heads]
  refine (Sgu.sum_head (fun q => k0_pay6 k0_pay5 w (ix2 t q)) (fun s => v (ix2 s l)) ⟨l.val / 64, by omega⟩).trans ?_
  refine Finset.sum_congr rfl fun s _ => congrArg (· * _) ?_
  refine (pay6_apply _ _ _ _).trans ?_
  rw [pay5_apply]
  have e : (l.val / 64 * 128 + s.val) % 128 = s.val := by omega
  by_cases h : s.val ≤ t.val
  · rw [if_pos h, if_pos (by dsimp only; rw [e, decide_eq_true h]; rfl)]
  · rw [if_neg h, if_neg (by dsimp only; rw [e, decide_eq_false h]; decide)]

/-! ## A tile -/

/-- What a tile's result holds, from its blocks. -/
def tile (x0 x1 : Vec Ideal S512x256 .f32) (x2 : Vec Ideal S1x256 .f32) (x3 : Vec Ideal S128x512 .f32)
    (x4 : Vec Ideal S128x256 .f32) (r : Fin 512) (l : Fin 256) : EReal :=
  Sgu.unit (x0 (ix2 r l)) (fun s k => x1 (ix2 (⟨r.val / 128 * 128 + s.val, by omega⟩ : Fin 512) k)) (fun k => x2 (ix2 0 k))
    (fun s => x3 (ix2 (⟨r.val % 128, by omega⟩ : Fin 128) (⟨l.val / 64 * 128 + s.val, by omega⟩ : Fin 512)))
    (x4 (ix2 (⟨r.val % 128, by omega⟩ : Fin 128) l)) ⟨r.val % 128, by omega⟩ l

/-- A chunk of the tile that begins at row `o`. -/
theorem tile_chunk (x0 x1 : Vec Ideal S512x256 .f32) (x2 : Vec Ideal S1x256 .f32) (x3 : Vec Ideal S128x512 .f32)
    (x4 : Vec Ideal S128x256 .f32) (u v : FVec Ideal S128x256 .f32) (o : Fin 4) (t : Fin 128) (l : Fin 256)
    (hu : u (ix2 t l) = k0_pay2 x0 (ix2 (⟨o.val * 128 + t.val, by omega⟩ : Fin 512) l))
    (hv : ∀ s : Fin 128, v (ix2 s l) = k0_pay3 x1 x2 (ix2 (⟨o.val * 128 + s.val, by omega⟩ : Fin 512) l)) :
    chunk u v k0_pay4 (k0_pay6 k0_pay5 x3) (k0_pay7 x4) (ix2 t l)
      = tile x0 x1 x2 x3 x4 ⟨o.val * 128 + t.val, by omega⟩ l := by
  have e1 : (o.val * 128 + t.val) % 128 = t.val := by omega
  have e2 : (o.val * 128 + t.val) / 128 = o.val := by omega
  rw [chunk_apply, hu, pay2_apply]
  simp only [hv, pay3_apply]
  unfold tile Sgu.unit
  simp only [e1, e2]

theorem zero2 : (![0, 0] : Fin 2 → Nat) = fun _ => 0 := funext fun a => by fin_cases a <;> rfl

theorem out_apply (x0 x1 : Vec Ideal S512x256 .f32) (x2 : Vec Ideal S1x256 .f32) (x3 : Vec Ideal S128x512 .f32)
    (x4 : Vec Ideal S128x256 .f32) (r : Fin 512) (l : Fin 256) :
    out0_5 x0 x1 x2 x3 x4 (ix2 r l) = tile x0 x1 x2 x3 x4 r l := by
  unfold out0_5 k0_pay22 k0_pay21 k0_pay20 k0_pay19 k0_pay18 k0_pay17
  rw [pay8_eq, pay13_eq, pay14_eq, pay1_eq]
  rw [View.ld_unit_zero zero2, View.ld_unit_zero zero2, View.ld_unit_zero zero2, View.ld_unit_zero zero2,
    View.ld_unit_zero zero2]
  refine (View.canon_apply_of_pieces (fun y : S512x256.Idx => tile x0 x1 x2 x3 x4 (y 0) (y 1)) _ (fun p hp j => ?_)
    (ix2 r l) (cover0_5 _ _ _ _ _)).trans rfl
  simp only [List.mem_cons, List.mem_nil_iff, or_false] at hp
  rcases hp with rfl | rfl | rfl | rfl
  · obtain ⟨t, k, rfl⟩ : ∃ (a : Fin 128) (b : Fin 256), j = ix2 a b := ⟨j 0, j 1, eq_ix2 j⟩
    refine (tile_chunk x0 x1 x2 x3 x4 _ _ 3 t k (cut3_apply _ _ _) fun s => cut3_apply _ _ _).trans ?_
    exact congrArg₂ (tile x0 x1 x2 x3 x4) (Fin.ext (by rw [Rect.emb_apply]; simp)) (Fin.ext (by rw [Rect.emb_apply]; simp))
  · obtain ⟨t, k, rfl⟩ : ∃ (a : Fin 128) (b : Fin 256), j = ix2 a b := ⟨j 0, j 1, eq_ix2 j⟩
    refine (tile_chunk x0 x1 x2 x3 x4 _ _ 2 t k (cut2_apply _ _ _) fun s => cut2_apply _ _ _).trans ?_
    exact congrArg₂ (tile x0 x1 x2 x3 x4) (Fin.ext (by rw [Rect.emb_apply]; simp)) (Fin.ext (by rw [Rect.emb_apply]; simp))
  · obtain ⟨t, k, rfl⟩ : ∃ (a : Fin 128) (b : Fin 256), j = ix2 a b := ⟨j 0, j 1, eq_ix2 j⟩
    refine (tile_chunk x0 x1 x2 x3 x4 _ _ 1 t k (cut1_apply _ _ _) fun s => cut1_apply _ _ _).trans ?_
    exact congrArg₂ (tile x0 x1 x2 x3 x4) (Fin.ext (by rw [Rect.emb_apply]; simp)) (Fin.ext (by rw [Rect.emb_apply]; simp))
  · obtain ⟨t, k, rfl⟩ : ∃ (a : Fin 128) (b : Fin 256), j = ix2 a b := ⟨j 0, j 1, eq_ix2 j⟩
    refine (tile_chunk x0 x1 x2 x3 x4 _ _ 0 t k ((cut0_apply _ _ _).trans ?_) fun s => (cut0_apply _ _ _).trans ?_).trans ?_
    · exact congrArg (fun i => k0_pay2 x0 (ix2 i k)) (Fin.ext (by simp))
    · exact congrArg (fun i => k0_pay3 x1 x2 (ix2 i k)) (Fin.ext (by simp))
    · exact congrArg₂ (tile x0 x1 x2 x3 x4) (Fin.ext (by rw [Rect.emb_apply]; simp)) (Fin.ext (by rw [Rect.emb_apply]; simp))

end Cert.SguIdeal.Chunks

end
-- ==== Proof.SguValue.lean ====
/-
  What the spatial gating kernel's result array holds at an index.
-/
module

public import proofs.«01_k».proof.Proof.SguBlock
public import Idealize.ShloMosaic.Lib.Pipeline.ReadBack

@[expose] public section

set_option maxRecDepth 16384

noncomputable section

namespace Cert.SguIdeal.Chunks

open Idealize.ShloMosaic Idealize.ShloMosaic.TcCoe Idealize.SL.Sem
open Cert.SguIdeal Cert.SguIdeal.Gen Cert.SguIdeal.Value

variable (m : (ℓ : Loc nD τ sig) → Buf (Elt Ideal) ℓ)

/-! ## What the host lays out for the call -/

/-- The heads' matrices side by side, as printed. -/
def beside (w : FVec Ideal S4x128x128 .f32) : FVec Ideal S128x512 .f32 :=
  shapeCast S128x512 (transpose S128x4x128 [1, 0, 2] w transposes_S4x128x128_S128x4x128_1_0_2 : FVec Ideal S128x4x128 .f32)
    shapeCasts_S128x4x128_S128x512

/-- The biases, one to each lane, as printed. -/
def biases (b : FVec Ideal S4x128 .f32) : FVec Ideal S128x256 .f32 :=
  shapeCast S128x256 (broadcastInDim S128x4x64 ![0, 1] bcast_S128x4_S128x4x64_0_1
    (transpose S128x4 [1, 0] b transposes_S4x128_S128x4_1_0) : FVec Ideal S128x4x64 .f32) shapeCasts_S128x4x64_S128x256

/-- The gains as a row, as printed. -/
def gains (g : FVec Ideal S256 .f32) : FVec Ideal S1x256 .f32 := shapeCast S1x256 g shapeCasts_S256_S1x256

theorem V_v1 (c : Dev nD) : V m c main_v1 = beside (m ((c : Thread nD τ).loc main_arg2)) := by
  simp only [V, hostOps0]
  after_results
  try rfl

theorem V_v4 (c : Dev nD) : V m c main_v4 = biases (m ((c : Thread nD τ).loc main_arg3)) := by
  simp only [V, hostOps0]
  after_results
  try rfl

theorem V_v5 (c : Dev nD) : V m c main_v5 = gains (m ((c : Thread nD τ).loc main_arg1)) := by
  simp only [V, hostOps0]
  after_results
  try rfl

theorem beside_apply (w : FVec Ideal S4x128x128 .f32) (t : Fin 128) (h : Fin 4) (s : Fin 128) :
    beside w (ix2 t (⟨h.val * 128 + s.val, by omega⟩ : Fin 512)) = w (ix3 h t s) := by
  pointwise [beside]

theorem biases_apply (b : FVec Ideal S4x128 .f32) (t : Fin 128) (l : Fin 256) :
    biases b (ix2 t l) = b (ix2 (⟨l.val / 64, by omega⟩ : Fin 4) t) := by
  pointwise [biases]

theorem gains_apply (g : FVec Ideal S256 .f32) (l : Fin 256) : gains g (ix2 0 l) = g (ix1 l) := by
  pointwise [gains]

/-! ## The blocks that a grid point reads -/

theorem idx : ∀ t : Fin cfg0.N, win0_0.index t = ![t.val, 0] ∧ win0_1.index t = ![t.val, 1]
    ∧ win0_2.index t = ![0, 0] ∧ win0_3.index t = ![0, 0] ∧ win0_4.index t = ![0, 0] ∧ win0_5.index t = ![t.val, 0] :=
  (by decide +kernel : ∀ t : Fin grid0.N, _)

theorem lt32 (t : Fin cfg0.N) : t.val < 32 := lt_of_lt_of_eq t.isLt (show cfg0.N = 32 from N_0)

/-- Row `r` of grid point `t`'s tile, as a row of the whole array. -/
def rowIx (t : Fin cfg0.N) (r : Fin 512) : Fin 16384 := ⟨t.val * 512 + r.val, by have := lt32 t; omega⟩

theorem blk0 (c : Dev nD) (t : Fin cfg0.N) (r : Fin 512) (k : Fin 256) :
    (iblk m c 0 t (ix2 r k) : EReal) = V m c main_arg0 (ix2 (rowIx t r) (⟨k.val, by omega⟩ : Fin 1280)) := by
  unfold rowIx
  blk_ext! [iblk, idx t]

theorem blk1 (c : Dev nD) (t : Fin cfg0.N) (r : Fin 512) (k : Fin 256) :
    (iblk m c 1 t (ix2 r k) : EReal) = V m c main_arg0 (ix2 (rowIx t r) (⟨256 + k.val, by omega⟩ : Fin 1280)) := by
  unfold rowIx
  blk_ext! [iblk, idx t]

theorem blk2 (c : Dev nD) (t : Fin cfg0.N) (k : Fin 256) :
    (iblk m c 2 t (ix2 0 k) : EReal) = V m c main_v5 (ix2 0 k) := by
  blk_ext! [iblk, idx t]

theorem blk3 (c : Dev nD) (t : Fin cfg0.N) (k : Fin 128) (l : Fin 512) :
    (iblk m c 3 t (ix2 k l) : EReal) = V m c main_v1 (ix2 k l) := by
  blk_ext! [iblk, idx t]

theorem blk4 (c : Dev nD) (t : Fin cfg0.N) (k : Fin 128) (l : Fin 256) :
    (iblk m c 4 t (ix2 k l) : EReal) = V m c main_v4 (ix2 k l) := by
  blk_ext! [iblk, idx t]

/-! ## The result array -/

/-- The gated entry of row `R` at lane `C`, from the arguments. -/
def gated (c : Dev nD) (R : Fin 16384) (C : Fin 256) : EReal :=
  Sgu.unit (m ((c : Thread nD τ).loc main_arg0) (ix2 R (⟨C.val, by omega⟩ : Fin 1280)))
    (fun s q => m ((c : Thread nD τ).loc main_arg0)
      (ix2 (⟨R.val / 128 * 128 + s.val, by omega⟩ : Fin 16384) (⟨256 + q.val, by omega⟩ : Fin 1280)))
    (fun q => m ((c : Thread nD τ).loc main_arg1) (ix1 q))
    (fun s => m ((c : Thread nD τ).loc main_arg2)
      (ix3 (⟨C.val / 64, by omega⟩ : Fin 4) (⟨R.val % 128, by omega⟩ : Fin 128) s))
    (m ((c : Thread nD τ).loc main_arg3) (ix2 (⟨C.val / 64, by omega⟩ : Fin 4) (⟨R.val % 128, by omega⟩ : Fin 128)))
    ⟨R.val % 128, by omega⟩ C

theorem out_at (c : Dev nD) (t : Fin cfg0.N) (r : Fin 512) (l : Fin 256) :
    out0_5 (iblk m c 0 t) (iblk m c 1 t) (iblk m c 2 t) (iblk m c 3 t) (iblk m c 4 t) (ix2 r l)
      = gated m c (rowIx t r) l := by
  rw [out_apply]
  unfold tile
  simp only [blk0, blk1, blk2, blk3, blk4]
  rw [V_main_arg0, V_v1, V_v4, V_v5]
  simp only [gains_apply, biases_apply]
  have hw : ∀ s : Fin 128, beside (m ((c : Thread nD τ).loc main_arg2)) (ix2 (⟨r.val % 128, by omega⟩ : Fin 128)
      (⟨l.val / 64 * 128 + s.val, by omega⟩ : Fin 512)) = m ((c : Thread nD τ).loc main_arg2)
        (ix3 (⟨l.val / 64, by omega⟩ : Fin 4) (⟨r.val % 128, by omega⟩ : Fin 128) s) :=
    fun s => beside_apply _ _ ⟨l.val / 64, by omega⟩ s
  simp only [hw]
  have e1 : (rowIx t r).val % 128 = r.val % 128 := by show (t.val * 512 + r.val) % 128 = r.val % 128; omega
  have e2 : ∀ s : Fin 128, rowIx t (⟨r.val / 128 * 128 + s.val, by omega⟩ : Fin 512)
      = (⟨(rowIx t r).val / 128 * 128 + s.val, by have := (rowIx t r).isLt; omega⟩ : Fin 16384) := fun s => by
    apply Fin.ext
    show t.val * 512 + (r.val / 128 * 128 + s.val) = (t.val * 512 + r.val) / 128 * 128 + s.val
    omega
  unfold gated
  simp only [e1, e2]

theorem final (c : Dev nD) (i : Fin 16384) (l : Fin 256) :
    (dats m 0 c).arrAt 5 cfg0.N (ix2 i l) = gated m c i l := by
  have e : (dats m 0 c).arrAt 5 cfg0.N = fun j : S16384x256.Idx => gated m c (j 0) (j 1) := by
    refine (dats m 0 c).arrAt_eq_of_covers 5 _ (by decide +kernel) fun t hf y => ?_
    obtain ⟨r, k, rfl⟩ : ∃ (a : Fin 512) (b : Fin 256), y = ix2 a b := ⟨y 0, y 1, eq_ix2 y⟩
    have e0 : (((cfg0.win 5).blk t).view.emb (ix2 r k)) 0 = rowIx t r := by
      apply Fin.ext
      blk_simp [idx t]
      rfl
    have e1 : (((cfg0.win 5).blk t).view.emb (ix2 r k)) 1 = k := by
      apply Fin.ext
      blk_simp [idx t]
    rw [e0, e1]
    blk_simp
    rw [after0_5]
    exact out_at m c t r k
  rw [e]
  rfl

end Cert.SguIdeal.Chunks

end
-- ==== Proof.SguRef.lean ====
/-
  What the reference of the spatial gating unit computes at an index.
-/
module

public import proofs.«01_k».proof.Proof.Gen.SguReferenceIdeal.Run
public import proofs.«01_k».proof.Proof.SguMath
public import Idealize.ShloMosaic.Lib.Pointwise
public import Idealize.ShloMosaic.Lib.Tactic
public import Idealize.ShloMosaic.Lib.WordCmp

@[expose] public section

set_option maxRecDepth 16384

noncomputable section

namespace Cert.SguReferenceIdeal.Ref

open Idealize.ShloMosaic Idealize.ShloMosaic.TcCoe Idealize.SL.Sem
open Cert.SguReferenceIdeal Cert.SguReferenceIdeal.Gen Cert.SguReferenceIdeal.Value

/-- The half that multiplies, as printed. -/
def half0 (z : FVec Ideal S16384x1280 .f32) : FVec Ideal S16384x256 .f32 :=
  extractStridedSlice S16384x256 ![0, 0] z slices_S16384x1280_S16384x256_0_0

/-- The half that is mixed, as printed. -/
def half1 (z : FVec Ideal S16384x1280 .f32) : FVec Ideal S16384x256 .f32 :=
  extractStridedSlice S16384x256 ![0, 256] z slices_S16384x1280_S16384x256_0_256

/-- Gelu, as printed. -/
def act (a : FVec Ideal S16384x256 .f32) : FVec Ideal S16384x256 .f32 :=
  mulf a (mulf (broadcastInDim S16384x256 ![] bcast_S_S16384x256 (constant S_ .f32 0x3F000000#32))
    (addf (broadcastInDim S16384x256 ![] bcast_S_S16384x256 (constant S_ .f32 0x3F800000#32))
      (Host.tanh (mulf (broadcastInDim S16384x256 ![] bcast_S_S16384x256 (constant S_ .f32 0x3F4C422A#32))
        (addf a (mulf (broadcastInDim S16384x256 ![] bcast_S_S16384x256 (constant S_ .f32 0x3D372713#32))
          (mulf (mulf a a) a)))))))

/-- The normalised rows, as printed. -/
def normed (y : FVec Ideal S16384x256 .f32) (g : FVec Ideal S256 .f32) : FVec Ideal S16384x256 .f32 :=
  mulf (mulf y (broadcastInDim S16384x256 ![0, 1] bcast_S16384x1_S16384x256_0_1
    (Host.rsqrt (addf (Host.divf (broadcastInDim S16384x1 ![0] bcast_S16384_S16384x1_0
      (Host.reduceAdd (mulf y y) (constant S_ .f32 0x00000000#32) reducesTo_S16384x256_S16384_d1 h_S_))
      (broadcastInDim S16384x1 ![] bcast_S_S16384x1 (constant S_ .f32 0x43800000#32)))
      (broadcastInDim S16384x1 ![] bcast_S_S16384x1 (constant S_ .f32 0x358637BD#32))))))
    (broadcastInDim S16384x256 ![0, 1] bcast_S1x256_S16384x256_0_1 (broadcastInDim S1x256 ![1] bcast_S256_S1x256_1 g))

/-- The matrix of ones on and below the diagonal, as printed. -/
def tri : FVec Ideal S128x128 .f32 :=
  select (cmpi .sge (addi (iotaInDim S128x128 32 0) (broadcastInDim S128x128 ![] bcast_S_S128x128 (constantI S_ 32 0#32)))
      (iotaInDim S128x128 32 1))
    (broadcastInDim S128x128 ![] bcast_S_S128x128 (constant S_ .f32 0x3F800000#32))
    (broadcastInDim S128x128 ![] bcast_S_S128x128 (constant S_ .f32 0x00000000#32))

/-- Each head's matrix with the entries above the diagonal zero, as printed. -/
def lower (w : FVec Ideal S4x128x128 .f32) (m : FVec Ideal S128x128 .f32) : FVec Ideal S4x128x128 .f32 :=
  mulf w (broadcastInDim S4x128x128 ![0, 1, 2] bcast_S1x128x128_S4x128x128_0_1_2
    (broadcastInDim S1x128x128 ![1, 2] bcast_S128x128_S1x128x128_1_2 m))

/-- The rows mixed within their chunks, with the bias, as printed. -/
def mixed (v : FVec Ideal S16384x256 .f32) (w : FVec Ideal S4x128x128 .f32) (b : FVec Ideal S4x128 .f32) :
    FVec Ideal S16384x256 .f32 :=
  shapeCast S16384x256 (addf (transpose S128x128x4x64 [1, 3, 0, 2]
      (Host.dotGeneral dot_S128x128x4x64_S4x128x128_S4x128x64x128_1_2_03_1_2_0 none
        (shapeCast S128x128x4x64 v shapeCasts_S16384x256_S128x128x4x64 : FVec Ideal S128x128x4x64 .f32) w
        : FVec Ideal S4x128x64x128 .f32) transposes_S4x128x64x128_S128x128x4x64_1_3_0_2)
    (broadcastInDim S128x128x4x64 ![0, 1, 2, 3] bcast_S1x128x4x1_S128x128x4x64_0_1_2_3
      (broadcastInDim S1x128x4x1 ![1, 2] bcast_S128x4_S1x128x4x1_1_2
        (transpose S128x4 [1, 0] b transposes_S4x128_S128x4_1_0)))) shapeCasts_S128x128x4x64_S16384x256

/-- The reference's result. -/
def result (z : FVec Ideal S16384x1280 .f32) (g : FVec Ideal S256 .f32) (w : FVec Ideal S4x128x128 .f32)
    (b : FVec Ideal S4x128 .f32) : FVec Ideal S16384x256 .f32 :=
  mulf (act (half0 z)) (mixed (normed (act (half1 z)) g) (lower w tri) b)

theorem out_eq (m : (ℓ : Loc nD τ sig) → Buf (Elt Ideal) ℓ) (c : Dev nD) :
    res_out0 m c = result (m ((c.tc : Thread nD τ).loc main_arg0)) (m ((c.tc : Thread nD τ).loc main_arg1))
      (m ((c.tc : Thread nD τ).loc main_arg2)) (m ((c.tc : Thread nD τ).loc main_arg3)) := rfl

section Stages
variable (z : FVec Ideal S16384x1280 .f32) (a y v : FVec Ideal S16384x256 .f32) (g : FVec Ideal S256 .f32)
  (w : FVec Ideal S4x128x128 .f32) (m : FVec Ideal S128x128 .f32) (b : FVec Ideal S4x128 .f32)

theorem half0_apply (R : Fin 16384) (C : Fin 256) :
    half0 z (ix2 R C) = z (ix2 R (⟨C.val, by omega⟩ : Fin 1280)) := by
  pointwise [half0]

theorem half1_apply (R : Fin 16384) (C : Fin 256) :
    half1 z (ix2 R C) = z (ix2 R (⟨256 + C.val, by omega⟩ : Fin 1280)) := by
  pointwise [half1]

theorem act_apply (R : Fin 16384) (C : Fin 256) : act a (ix2 R C) = Sgu.gelu (a (ix2 R C)) := by
  have e : (a (ix2 R C) * (a (ix2 R C) * a (ix2 R C)) : EReal) = a (ix2 R C) * a (ix2 R C) * a (ix2 R C) := mul_comm _ _
  unfold Sgu.gelu
  rw [e]
  pointwise [act]

theorem normed_apply (R : Fin 16384) (C : Fin 256) :
    normed y g (ix2 R C) = Rows.seg (fun q => y (ix2 R q)) (fun q => g (ix1 q)) C := by
  pointwise [normed, Rows.seg, Rows.scale, Rows.div_256]

theorem tri_apply (t s : Fin 128) : tri (ix2 t s) = (if s.val ≤ t.val then 1 else 0 : EReal) := by
  pointwise [tri]
  have a0 : IntOp.addi (BitVec.ofNat 32 t.val) 0#32 = BitVec.ofNat 32 t.val := BitVec.add_zero _
  rw [a0, WordCmp.cmpi_sge_ofNat (by have := t.isLt; omega) (by have := s.isLt; omega)]
  by_cases e : s.val ≤ t.val
  · rw [if_pos e, decide_eq_true e]; rfl
  · rw [if_neg e, decide_eq_false e]; rfl

theorem lower_apply (h : Fin 4) (t s : Fin 128) : lower w m (ix3 h t s) = (w (ix3 h t s) * m (ix2 t s) : EReal) := by
  pointwise [lower]

theorem mixed_apply (R : Fin 16384) (C : Fin 256) : mixed v w b (ix2 R C)
    = ((∑ s : Fin 128, v (ix2 (⟨R.val / 128 * 128 + s.val, by omega⟩ : Fin 16384) C)
        * w (ix3 (⟨C.val / 64, by omega⟩ : Fin 4) (⟨R.val % 128, by omega⟩ : Fin 128) s))
      + b (ix2 (⟨C.val / 64, by omega⟩ : Fin 4) (⟨R.val % 128, by omega⟩ : Fin 128)) : EReal) := by
  pointwise [mixed]

/-- The reference's result at an index. -/
theorem result_apply (R : Fin 16384) (C : Fin 256) : result z g w b (ix2 R C)
    = Sgu.unit (z (ix2 R (⟨C.val, by omega⟩ : Fin 1280)))
        (fun s q => z (ix2 (⟨R.val / 128 * 128 + s.val, by omega⟩ : Fin 16384) (⟨256 + q.val, by omega⟩ : Fin 1280)))
        (fun q => g (ix1 q)) (fun s => w (ix3 (⟨C.val / 64, by omega⟩ : Fin 4) (⟨R.val % 128, by omega⟩ : Fin 128) s))
        (b (ix2 (⟨C.val / 64, by omega⟩ : Fin 4) (⟨R.val % 128, by omega⟩ : Fin 128))) ⟨R.val % 128, by omega⟩ C := by
  have e : result z g w b (ix2 R C)
      = (act (half0 z) (ix2 R C) * mixed (normed (act (half1 z)) g) (lower w tri) b (ix2 R C) : EReal) := by
    pointwise [result]
  rw [e, act_apply, half0_apply, mixed_apply]
  unfold Sgu.unit
  congr 2
  refine Finset.sum_congr rfl fun s _ => ?_
  rw [lower_apply, tri_apply, normed_apply]
  simp only [act_apply, half1_apply]
  unfold Sgu.gate
  refine (mul_comm _ _).trans (congrArg (· * _) ?_)
  by_cases e : s.val ≤ R.val % 128
  · rw [if_pos e, if_pos e, mul_one]
  · rw [if_neg e, if_neg e, mul_zero]

end Stages

end Cert.SguReferenceIdeal.Ref

end
-- ==== Proof.SguClaim.lean ====
/-
  The spatial gating call's claims: the frame of its reference, and that the kernel's array and the reference's array are
  the same function of the arguments.
-/
module

public import proofs.«01_k».proof.Defs
public import proofs.«01_k».proof.Proof.Gen.SguIdeal.Frame
public import proofs.«01_k».proof.Proof.SguValue
public import proofs.«01_k».proof.Proof.SguRef
public import Idealize.ShloMosaic.Lib.Claim

@[expose] public section

noncomputable section

namespace Cert.Proof

open Idealize.ShloMosaic Idealize.ShloMosaic.TcCoe Idealize.SL.Sem

/-- The spatial gating reference runs, leaves its arguments and uses no semaphore. -/
theorem sgu_reference_frame :
    quiescent_SguReferenceIdeal (hSguReferenceIdeal := Cert.SguReferenceIdeal.Gen.facts) :=
  fun m ρ _ => (θ_run Cert.SguReferenceIdeal.defs _ _).mono
    (fun r h => ⟨fun c => (h c).2, Idealize.ShloMosaic.sem_eq_zero_of_no_sems (by decide) r.2⟩)
    (Cert.SguReferenceIdeal.Value.run (F := Ideal) m ρ)

/-- The spatial gating kernel and its reference end with the same array. -/
theorem sgu_algebraic : algebraic_SguIdeal_SguReferenceIdeal (hSguIdeal := Cert.SguIdeal.Gen.facts)
    (hSguReferenceIdeal := Cert.SguReferenceIdeal.Gen.facts) := by
  pair_intro
  · run_from Cert.SguIdeal.Value.run_blocks m g
  · run_from Cert.SguReferenceIdeal.Value.run m' g'
    funext j
    obtain ⟨r, l, rfl⟩ : ∃ a b, j = ix2 a b := ⟨j 0, j 1, eq_ix2 j⟩
    refine (congrFun (Cert.SguReferenceIdeal.Ref.out_eq m' c) (ix2 r l)).trans ?_
    obtain ⟨h0, h1, h2, h3⟩ := hagree c
    rw [h0, h1, h2, h3]
    refine (Cert.SguReferenceIdeal.Ref.result_apply _ _ _ _ r l).trans ?_
    exact (Cert.SguIdeal.Chunks.final m c r l).symm

end Cert.Proof

end
-- ==== Proof.FcumFold.lean ====
/-
  What the carried row and the two outputs of the forget gates' running sums hold, point by point, as vector terms: the
  generated case terms (the first chunk of a batch entry, any other chunk) read back as the payloads that the body stores.
-/
module

public import proofs.«01_k».proof.Proof.Gen.FcumIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.FcumIdeal.Fold

open Idealize.ShloMosaic Idealize.ShloMosaic.TcCoe Idealize.SL.Sem
open Cert.FcumIdeal Cert.FcumIdeal.Gen Cert.FcumIdeal.Value

variable {F : FTy → Type} [FloatOps F]
variable (m : (ℓ : Loc nD τ sig) → Buf (Elt F) ℓ)

/-- At a batch entry's first chunk the carried row is the chunk's last, added to zero. -/
theorem carry_reset (c : Dev nD) (t : Fin cfg0.N) (h0 : t.val % 8 = 0) :
    (outsAt0 m c t.val t.isLt).2.2 = k0_pay6 (k0_pay4 (iblk m c 0 t) (iblk m c 1 t)) (k0_pay3 (F := F)) := by
  rw [outsAt0_A m c t h0]
  funext j
  frame_out

/-- At every other chunk it is the chunk's last, added to the row carried so far. -/
theorem carry_step (c : Dev nD) (n : ℕ) (hn : n + 1 < cfg0.N) (h0 : ¬(n + 1) % 8 = 0) :
    (outsAt0 m c (n + 1) hn).2.2
      = k0_pay6 (k0_pay4 (iblk m c 0 ⟨n + 1, hn⟩) (iblk m c 1 ⟨n + 1, hn⟩)) (outsAt0 m c n (by omega)).2.2 := by
  rw [outsAt0_B m c ⟨n + 1, hn⟩ h0]
  funext j
  frame_out
  simp only [read_unread_whole]
  rfl

/-- The first output's block, as stored: column `h` of the sums at the lanes of head `h`. -/
def cols (v : FVec F S512x128 .f32) (r : Vec F S1x128 .f32) : Vec F S512x512 .f32 :=
  View.canon [⟨Rect.unit (s := S512x512) ![0, 384] S512x128.size inb_S512x512_S512x128_0_384, k0_pay1 (k0_pay5 v r)⟩,
    ⟨Rect.unit (s := S512x512) ![0, 256] S512x128.size inb_S512x512_S512x128_0_256, k0_pay12 v r⟩,
    ⟨Rect.unit (s := S512x512) ![0, 128] S512x128.size inb_S512x512_S512x128_0_128, k0_pay10 v r⟩,
    ⟨Rect.unit (s := S512x512) ![0, 0] S512x128.size inb_S512x512_S512x128_0_0, k0_pay8 v r⟩]

/-- The second output's block, as stored: column `h` of the sums as eight rows. -/
def rows (v : FVec F S512x128 .f32) (r : Vec F S1x128 .f32) : Vec F S1x32x512 .f32 :=
  View.canon [⟨Rect.unit (s := S1x32x512) ![0, 24, 0] S1x8x512.size inb_S1x32x512_S1x8x512_0_24_0, k0_pay2 (k0_pay7 v r)⟩,
    ⟨Rect.unit (s := S1x32x512) ![0, 16, 0] S1x8x512.size inb_S1x32x512_S1x8x512_0_16_0, k0_pay13 v r⟩,
    ⟨Rect.unit (s := S1x32x512) ![0, 8, 0] S1x8x512.size inb_S1x32x512_S1x8x512_0_8_0, k0_pay11 v r⟩,
    ⟨Rect.unit (s := S1x32x512) ![0, 0, 0] S1x8x512.size inb_S1x32x512_S1x8x512_0_0_0, k0_pay9 v r⟩]

/-- The first output's block at a batch entry's first chunk. -/
theorem cols_reset (c : Dev nD) (t : Fin cfg0.N) (h0 : t.val % 8 = 0) :
    (outsAt0 m c t.val t.isLt).1 = cols (k0_pay4 (iblk m c 0 t) (iblk m c 1 t)) (k0_pay3 (F := F)) := by
  rw [outsAt0_A m c t h0]
  funext j
  frame_out

/-- The second output's block at a batch entry's first chunk. -/
theorem rows_reset (c : Dev nD) (t : Fin cfg0.N) (h0 : t.val % 8 = 0) :
    (outsAt0 m c t.val t.isLt).2.1 = rows (k0_pay4 (iblk m c 0 t) (iblk m c 1 t)) (k0_pay3 (F := F)) := by
  rw [outsAt0_A m c t h0]
  funext j
  frame_out

/-- The first output's block at every other chunk. -/
theorem cols_step (c : Dev nD) (n : ℕ) (hn : n + 1 < cfg0.N) (h0 : ¬(n + 1) % 8 = 0) :
    (outsAt0 m c (n + 1) hn).1
      = cols (k0_pay4 (iblk m c 0 ⟨n + 1, hn⟩) (iblk m c 1 ⟨n + 1, hn⟩)) (outsAt0 m c n (by omega)).2.2 := by
  rw [outsAt0_B m c ⟨n + 1, hn⟩ h0]
  funext j
  frame_out
  simp only [read_unread_whole]
  rfl

/-- The second output's block at every other chunk. -/
theorem rows_step (c : Dev nD) (n : ℕ) (hn : n + 1 < cfg0.N) (h0 : ¬(n + 1) % 8 = 0) :
    (outsAt0 m c (n + 1) hn).2.1
      = rows (k0_pay4 (iblk m c 0 ⟨n + 1, hn⟩) (iblk m c 1 ⟨n + 1, hn⟩)) (outsAt0 m c n (by omega)).2.2 := by
  rw [outsAt0_B m c ⟨n + 1, hn⟩ h0]
  funext j
  frame_out
  simp only [read_unread_whole]
  rfl

end Cert.FcumIdeal.Fold

end
-- ==== Proof.FcumMath.lean ====
/-
  The forget gates' running sums: the logarithm of a gate, its three parts, and sums up to a position.
-/
module

public import Idealize.ShloMosaic.PureOps.Ideal
public import Idealize.ShloMosaic.Lib.ValueIdx
public import Mathlib.Algebra.BigOperators.Fin
public import Mathlib.Data.EReal.Operations

@[expose] public section

noncomputable section

namespace Fcum

open Idealize.ShloMosaic

/-- The logarithm of a forget gate's sigmoid, `-(max(-y, 0) + log(1 + exp(-|y|)))`. -/
def logGate (y : EReal) : EReal := -(max (-y) 0 + Ideal.log1p (Ideal.exp (-(max (-y) (-(-y))))))

theorem exp_nonneg (x : EReal) : 0 ≤ Ideal.exp x := by
  induction x using EReal.rec with
  | bot => exact le_refl _
  | top => exact le_top
  | coe r => exact EReal.coe_nonneg.2 (Real.exp_pos r).le

theorem log_ne_bot {x : EReal} (h : 0 < x) : Ideal.log x ≠ ⊥ := by
  induction x using EReal.rec with
  | bot => exact absurd h (by simp)
  | top => exact top_ne_bot
  | coe r =>
    have hr : 0 < r := EReal.coe_pos.1 h
    show (if r ≤ 0 then (⊥ : EReal) else (Real.log r : EReal)) ≠ ⊥
    rw [if_neg (not_le.2 hr)]
    exact EReal.coe_ne_bot _

/-- The logarithm of a gate is never infinite above. -/
theorem logGate_ne_top (y : EReal) : logGate y ≠ ⊤ := by
  unfold logGate
  rw [Ne, EReal.neg_eq_top_iff, EReal.add_eq_bot_iff]
  rintro (h | h)
  · exact absurd (h ▸ le_max_right (-y) (0 : EReal)) (by simp)
  · refine log_ne_bot (lt_of_lt_of_le (zero_lt_one (α := EReal)) ?_) h
    exact le_add_of_nonneg_right (exp_nonneg _)

/-- A number that is not infinite above is the sum of its parts: itself, what is left, and what is then left. -/
theorem parts {x : EReal} (h : x ≠ ⊤) : x + (x - x) + ((x - x) - (x - x)) = x := by
  induction x using EReal.rec with
  | bot => simp
  | top => exact absurd rfl h
  | coe r => norm_cast; simp

/-- A sum up to a position, over a range. -/
theorem sum_upto {N : ℕ} (f : ℕ → EReal) (r : ℕ) (hr : r < N) :
    (∑ q : Fin N, if q.val ≤ r then f q.val else 0) = ∑ q ∈ Finset.range (r + 1), f q := by
  rw [Fin.sum_univ_eq_sum_range (fun q => if q ≤ r then f q else 0) N, ← Finset.sum_filter]
  refine Finset.sum_congr (Finset.ext fun q => ?_) fun _ _ => rfl
  rw [Finset.mem_filter, Finset.mem_range, Finset.mem_range]
  omega

/-- The lower triangle's product with the three parts is the sum up to the row. -/
theorem tril_parts {N : ℕ} (x : Fin N → EReal) (hx : ∀ q, x q ≠ ⊤) (r : ℕ) :
    (∑ q : Fin N, (if q.val ≤ r then 1 else 0 : EReal) * x q)
      + (∑ q : Fin N, (if q.val ≤ r then 1 else 0 : EReal) * (x q - x q))
      + (∑ q : Fin N, (if q.val ≤ r then 1 else 0 : EReal) * ((x q - x q) - (x q - x q)))
      = ∑ q : Fin N, if q.val ≤ r then x q else 0 := by
  rw [← Finset.sum_add_distrib, ← Finset.sum_add_distrib]
  refine Finset.sum_congr rfl fun q _ => ?_
  by_cases h : q.val ≤ r
  · simp only [if_pos h, one_mul]
    exact parts (hx q)
  · simp only [if_neg h, zero_mul, add_zero]

/-- A left fold of additions is the start and the sum. -/
theorem foldl_add {ι : Type} (g : ι → EReal) : ∀ (l : List ι) (v : EReal),
    l.foldl (fun r n => r + g n) v = v + (l.map g).sum := by
  intro l
  induction l with
  | nil => intro v; simp
  | cons a l ih => intro v; rw [List.foldl_cons, ih, List.map_cons, List.sum_cons, add_assoc]

end Fcum

end
-- ==== Proof.FcumBlock.lean ====
/-
  What one chunk of the forget gates' running sums computes: the sums of the chunk's logarithms up to each row, the row
  carried from the chunks before added, and the two outputs' blocks.
-/
module

public import proofs.«01_k».proof.Proof.FcumFold
public import proofs.«01_k».proof.Proof.FcumMath
public import Idealize.ShloMosaic.Lib.WordCmp

@[expose] public section

set_option maxRecDepth 16384

noncomputable section

namespace Cert.FcumIdeal.Fold

open Idealize.ShloMosaic Idealize.ShloMosaic.TcCoe Idealize.SL.Sem
open Cert.FcumIdeal Cert.FcumIdeal.Gen Cert.FcumIdeal.Value

/-! ## A chunk's sums -/

/-- The logarithms of a chunk's gates, as printed. -/
def logs (z : Vec Ideal S512x128 .f32) (g : Vec Ideal S1x128 .f32) : FVec Ideal S512x128 .f32 :=
  have y : FVec Ideal S512x128 .f32 := addf z (broadcastTo S512x128 (shapeCast S1x128 g shapeCasts_S1x128_S1x128 : FVec Ideal S1x128 .f32)
    broadcasts_S1x128_S512x128)
  have zero : FVec Ideal S512x128 .f32 := broadcast S512x128 (Scalar.ofBits .f32 0x00000000#32)
  subf zero (addf (maximumf (subf zero y) zero) (log1p (exp (subf zero (absf (subf zero y))))))

/-- The lower triangle of ones, as printed. -/
def tril : FVec Ideal S512x512 .f32 :=
  select (cmpi .sle (iota .tc S512x512 32 [1] iota_S512x512_d1_w32) (iota .tc S512x512 32 [0] iota_S512x512_d0_w32))
    (broadcast S512x512 (Scalar.ofBits .f32 0x3F800000#32 : Ideal .f32)) (broadcast S512x512 (Scalar.ofBits .f32 0x00000000#32 : Ideal .f32))

/-- The three products, as printed. -/
def three (w : FVec Ideal S512x512 .f32) (x : FVec Ideal S512x128 .f32) : FVec Ideal S512x128 .f32 :=
  have u : FVec Ideal S512x512 .bf16 := truncf .bf16 w bitsLt_bf16_f32
  have a : FVec Ideal S512x128 .bf16 := truncf .bf16 x bitsLt_bf16_f32
  have x1 : FVec Ideal S512x128 .f32 := subf x (extf .f32 a bitsLt_bf16_f32)
  have b : FVec Ideal S512x128 .bf16 := truncf .bf16 x1 bitsLt_bf16_f32
  have x2 : FVec Ideal S512x128 .f32 := subf x1 (extf .f32 b bitsLt_bf16_f32)
  have d : FVec Ideal S512x128 .bf16 := truncf .bf16 x2 bitsLt_bf16_f32
  addf (addf (matmul dot_S512x512_S512x128_S512x128_1_0_0_1_n_n none u a (constant S512x128 .f32 0x00000000#32))
    (matmul dot_S512x512_S512x128_S512x128_1_0_0_1_n_n none u b (constant S512x128 .f32 0x00000000#32)))
    (matmul dot_S512x512_S512x128_S512x128_1_0_0_1_n_n none u d (constant S512x128 .f32 0x00000000#32))

theorem pay4_eq (z : Vec Ideal S512x128 .f32) (g : Vec Ideal S1x128 .f32) : k0_pay4 z g = three tril (logs z g) := rfl

theorem logs_apply (z : Vec Ideal S512x128 .f32) (g : Vec Ideal S1x128 .f32) (r : Fin 512) (l : Fin 128) :
    logs z g (ix2 r l) = Fcum.logGate (z (ix2 r l) + g (ix2 0 l)) := by
  pointwise [logs, Fcum.logGate]
  simp only [zero_sub]
  rfl

theorem tril_apply (r q : Fin 512) : tril (ix2 r q) = (if q.val ≤ r.val then 1 else 0 : EReal) := by
  pointwise [tril]
  rw [WordCmp.cmpi_sle_ofNat (by omega) (by omega)]
  by_cases e : q.val ≤ r.val
  · rw [if_pos e, decide_eq_true e]; rfl
  · rw [if_neg e, decide_eq_false e]; rfl

theorem three_apply (w : FVec Ideal S512x512 .f32) (x : FVec Ideal S512x128 .f32) (r : Fin 512) (l : Fin 128) :
    three w x (ix2 r l) = ((∑ q : Fin 512, w (ix2 r q) * x (ix2 q l)) + (∑ q : Fin 512, w (ix2 r q) * (x (ix2 q l) - x (ix2 q l)))
      + (∑ q : Fin 512, w (ix2 r q) * ((x (ix2 q l) - x (ix2 q l)) - (x (ix2 q l) - x (ix2 q l)))) : EReal) := by
  pointwise [three]

/-- A chunk's sums up to a row. -/
theorem pay4_apply (z : Vec Ideal S512x128 .f32) (g : Vec Ideal S1x128 .f32) (r : Fin 512) (l : Fin 128) :
    k0_pay4 z g (ix2 r l)
      = (∑ q : Fin 512, if q.val ≤ r.val then Fcum.logGate (z (ix2 q l) + g (ix2 0 l)) else 0 : EReal) := by
  rw [pay4_eq, three_apply]
  simp only [tril_apply, logs_apply]
  exact Fcum.tril_parts (fun q : Fin 512 => Fcum.logGate (z (ix2 q l) + g (ix2 0 l))) (fun q => Fcum.logGate_ne_top _) r.val

/-! ## The row carried, and the outputs' pieces -/

theorem pay3_apply (l : Fin 128) : (k0_pay3 (F := Ideal)) (ix2 0 l) = (0 : EReal) := by pointwise [k0_pay3]

section Pieces
variable (v : FVec Ideal S512x128 .f32) (g : Vec Ideal S1x128 .f32)

theorem pay6_apply (l : Fin 128) : k0_pay6 v g (ix2 0 l) = (v (ix2 (511 : Fin 512) l) + g (ix2 0 l) : EReal) := by
  pointwise [k0_pay6, k0_pay5]

theorem pay8_apply (r : Fin 512) (l : Fin 128) : k0_pay8 v g (ix2 r l) = (v (ix2 r (0 : Fin 128)) + g (ix2 0 (0 : Fin 128)) : EReal) := by
  pointwise [k0_pay8, k0_pay5]

theorem pay10_apply (r : Fin 512) (l : Fin 128) : k0_pay10 v g (ix2 r l) = (v (ix2 r (1 : Fin 128)) + g (ix2 0 (1 : Fin 128)) : EReal) := by
  pointwise [k0_pay10, k0_pay5]

theorem pay12_apply (r : Fin 512) (l : Fin 128) : k0_pay12 v g (ix2 r l) = (v (ix2 r (2 : Fin 128)) + g (ix2 0 (2 : Fin 128)) : EReal) := by
  pointwise [k0_pay12, k0_pay5]

theorem pay1_apply (r : Fin 512) (l : Fin 128) :
    k0_pay1 (k0_pay5 v g) (ix2 r l) = (v (ix2 r (3 : Fin 128)) + g (ix2 0 (3 : Fin 128)) : EReal) := by
  pointwise [k0_pay1, k0_pay5]

theorem pay9_apply (j : Fin 8) (r : Fin 512) : k0_pay9 v g (ix3 (0 : Fin 1) j r) = (v (ix2 r (0 : Fin 128)) + g (ix2 0 (0 : Fin 128)) : EReal) := by
  pointwise [k0_pay9, k0_pay7, k0_pay5]

theorem pay11_apply (j : Fin 8) (r : Fin 512) : k0_pay11 v g (ix3 (0 : Fin 1) j r) = (v (ix2 r (1 : Fin 128)) + g (ix2 0 (1 : Fin 128)) : EReal) := by
  pointwise [k0_pay11, k0_pay7, k0_pay5]

theorem pay13_apply (j : Fin 8) (r : Fin 512) : k0_pay13 v g (ix3 (0 : Fin 1) j r) = (v (ix2 r (2 : Fin 128)) + g (ix2 0 (2 : Fin 128)) : EReal) := by
  pointwise [k0_pay13, k0_pay7, k0_pay5]

theorem pay2_apply (j : Fin 8) (r : Fin 512) :
    k0_pay2 (k0_pay7 v g) (ix3 (0 : Fin 1) j r) = (v (ix2 r (3 : Fin 128)) + g (ix2 0 (3 : Fin 128)) : EReal) := by
  pointwise [k0_pay2, k0_pay7, k0_pay5]

/-- The first output's block at an index. -/
theorem cols_apply (r l : Fin 512) : cols v g (ix2 r l)
    = (v (ix2 r (⟨l.val / 128, by omega⟩ : Fin 128)) + g (ix2 0 (⟨l.val / 128, by omega⟩ : Fin 128)) : EReal) := by
  unfold cols
  refine (View.canon_apply_of_pieces (fun y : S512x512.Idx => (v (ix2 (y 0) (⟨(y 1).val / 128, by have : (y 1).val < 512 := (y 1).isLt; omega⟩ : Fin 128))
    + g (ix2 0 (⟨(y 1).val / 128, by have : (y 1).val < 512 := (y 1).isLt; omega⟩ : Fin 128)) : EReal)) _ (fun p hp j => ?_)
    (ix2 r l) ?_).trans rfl
  case refine_2 =>
    refine View.cover_of_tiledL _ (![512, 128] : Fin 2 → ℕ) ?_ _
    sl_kernel_rfl
  have key : ∀ (a : Fin 512) (b : Fin 128) (y : S512x512.Idx) (k : Fin 128), (y 0).val = a.val → (y 1).val = k.val * 128 + b.val →
      (v (ix2 a k) + g (ix2 0 k) : EReal) = v (ix2 (y 0) (⟨(y 1).val / 128, by have : (y 1).val < 512 := (y 1).isLt; omega⟩ : Fin 128))
        + g (ix2 0 (⟨(y 1).val / 128, by have : (y 1).val < 512 := (y 1).isLt; omega⟩ : Fin 128)) := by
    intro a b y k h0 h1
    have e0 : y 0 = a := Fin.ext h0
    have e1 : (⟨(y 1).val / 128, by have : (y 1).val < 512 := (y 1).isLt; omega⟩ : Fin 128) = k := Fin.ext (by show (y 1).val / 128 = k.val; omega)
    rw [e0, e1]
  simp only [List.mem_cons, List.mem_nil_iff, or_false] at hp
  rcases hp with rfl | rfl | rfl | rfl
  all_goals obtain ⟨a, b, rfl⟩ : ∃ (a : Fin 512) (b : Fin 128), j = ix2 a b := ⟨j 0, j 1, eq_ix2 j⟩
  · exact (pay1_apply v g a b).trans (key a b _ 3 (by rw [Rect.emb_apply]; simp) (by rw [Rect.emb_apply]; simp))
  · exact (pay12_apply v g a b).trans (key a b _ 2 (by rw [Rect.emb_apply]; simp) (by rw [Rect.emb_apply]; simp))
  · exact (pay10_apply v g a b).trans (key a b _ 1 (by rw [Rect.emb_apply]; simp) (by rw [Rect.emb_apply]; simp))
  · exact (pay8_apply v g a b).trans (key a b _ 0 (by rw [Rect.emb_apply]; simp) (by rw [Rect.emb_apply]; simp))

/-- The second output's block at an index. -/
theorem rows_apply (i : Fin 32) (r : Fin 512) : rows v g (ix3 (0 : Fin 1) i r)
    = (v (ix2 r (⟨i.val / 8, by omega⟩ : Fin 128)) + g (ix2 0 (⟨i.val / 8, by omega⟩ : Fin 128)) : EReal) := by
  unfold rows
  refine (View.canon_apply_of_pieces (fun y : S1x32x512.Idx => (v (ix2 (y 2) (⟨(y 1).val / 8, by have : (y 1).val < 32 := (y 1).isLt; omega⟩ : Fin 128))
    + g (ix2 0 (⟨(y 1).val / 8, by have : (y 1).val < 32 := (y 1).isLt; omega⟩ : Fin 128)) : EReal)) _ (fun p hp j => ?_)
    (ix3 0 i r) ?_).trans rfl
  case refine_2 =>
    refine View.cover_of_tiledL _ (![1, 8, 512] : Fin 3 → ℕ) ?_ _
    sl_kernel_rfl
  have key : ∀ (a : Fin 512) (b : Fin 8) (y : S1x32x512.Idx) (k : Fin 128), (y 2).val = a.val → (y 1).val = k.val * 8 + b.val →
      (v (ix2 a k) + g (ix2 0 k) : EReal) = v (ix2 (y 2) (⟨(y 1).val / 8, by have : (y 1).val < 32 := (y 1).isLt; omega⟩ : Fin 128))
        + g (ix2 0 (⟨(y 1).val / 8, by have : (y 1).val < 32 := (y 1).isLt; omega⟩ : Fin 128)) := by
    intro a b y k h0 h1
    have e0 : y 2 = a := Fin.ext h0
    have e1 : (⟨(y 1).val / 8, by have : (y 1).val < 32 := (y 1).isLt; omega⟩ : Fin 128) = k :=
      Fin.ext (by show (y 1).val / 8 = k.val; omega)
    rw [e0, e1]
  simp only [List.mem_cons, List.mem_nil_iff, or_false] at hp
  rcases hp with rfl | rfl | rfl | rfl
  all_goals obtain ⟨b, a, rfl⟩ : ∃ (b : Fin 8) (a : Fin 512), j = ix3 (0 : Fin 1) b a :=
    ⟨j 1, j 2, (eq_ix3 j).trans (congrArg (fun k => ix3 k (j 1) (j 2)) (Subsingleton.elim (α := Fin 1) _ _))⟩
  · exact (pay2_apply v g b a).trans (key a b _ 3 (by rw [Rect.emb_apply]; simp) (by rw [Rect.emb_apply]; simp))
  · exact (pay13_apply v g b a).trans (key a b _ 2 (by rw [Rect.emb_apply]; simp) (by rw [Rect.emb_apply]; simp))
  · exact (pay11_apply v g b a).trans (key a b _ 1 (by rw [Rect.emb_apply]; simp) (by rw [Rect.emb_apply]; simp))
  · exact (pay9_apply v g b a).trans (key a b _ 0 (by rw [Rect.emb_apply]; simp) (by rw [Rect.emb_apply]; simp))

end Pieces

end Cert.FcumIdeal.Fold

end
-- ==== Proof.FcumValue.lean ====
/-
  What the two result arrays of the forget gates' running sums hold at an index.
-/
module

public import proofs.«01_k».proof.Proof.FcumBlock

@[expose] public section

set_option maxRecDepth 16384

noncomputable section

namespace Cert.FcumIdeal.Fold

open Idealize.ShloMosaic Idealize.ShloMosaic.TcCoe Idealize.SL.Sem
open Cert.FcumIdeal Cert.FcumIdeal.Gen Cert.FcumIdeal.Value

variable (m : (ℓ : Loc nD τ sig) → Buf (Elt Ideal) ℓ)

/-! ## What the host lays out for the call -/

/-- The biases as a row, zeros behind them, as printed. -/
def padded (g : FVec Ideal S4 .f32) : FVec Ideal S1x128 .f32 :=
  shapeCast S1x128 (pad S128 ![0] ![124] ![0] g (sitofp .f32 (constantI S_ 32 0#32) : FVec Ideal S_ .f32) pads_S4_S128_01240 h_S_ :
    FVec Ideal S128 .f32) shapeCasts_S128_S1x128

theorem V_v1 (c : Dev nD) : V m c main_v1 = padded (m ((c : Thread nD τ).loc main_arg1)) := by
  show StableHlo.after (List.flatten [hostOps0, hostOps0_1, hostOps0_2]) (fun b => m (c, b)) main_v1 = _
  simp only [List.flatten_cons, List.flatten_nil, List.append_nil, List.cons_append, List.nil_append,
    StableHlo.TRef.binary, StableHlo.TRef.unary, StableHlo.TRef.toBuf, StableHlo.TRef.ofBuf, cast_eq]
  after_results
  try rfl

theorem padded_apply (g : FVec Ideal S4 .f32) (h : Fin 4) : padded g (ix2 0 (⟨h.val, by omega⟩ : Fin 128)) = g (ix1 h) := by
  pointwise [padded]

/-! ## The blocks that a grid point reads -/

theorem idx : ∀ t : Fin cfg0.N, win0_0.index t = ![t.val, 0] ∧ win0_1.index t = ![0, 0]
    ∧ win0_2.index t = ![t.val, 0] ∧ win0_3.index t = ![t.val / 8, 0, t.val % 8] :=
  (by decide +kernel : ∀ t : Fin grid0.N, _)

theorem lt32 (t : Fin cfg0.N) : t.val < 32 := lt_of_lt_of_eq t.isLt (show cfg0.N = 32 from N_0)

theorem blk0 (c : Dev nD) (t : Fin cfg0.N) (r : Fin 512) (l : Fin 128) :
    (iblk m c 0 t (ix2 r l) : EReal)
      = V m c main_arg0 (ix2 (⟨t.val * 512 + r.val, by have := lt32 t; omega⟩ : Fin 16384) l) := by
  blk_ext! [iblk, idx t]

theorem blk1 (c : Dev nD) (t : Fin cfg0.N) (l : Fin 128) :
    (iblk m c 1 t (ix2 0 l) : EReal) = V m c main_v1 (ix2 0 l) := by
  blk_ext! [iblk, idx t]

/-! ## The sums -/

/-- The logits' array and the biases, at launch. -/
abbrev zArr (c : Dev nD) : FVec Ideal S16384x128 .f32 := m ((c : Thread nD τ).loc main_arg0)
abbrev gArr (c : Dev nD) : FVec Ideal S4 .f32 := m ((c : Thread nD τ).loc main_arg1)

/-- The logarithm of lane `l`'s gate at position `s` of batch entry `b`. -/
def gateAt (c : Dev nD) (b : ℕ) (l : Fin 128) (s : ℕ) : EReal :=
  Fcum.logGate (zArr m c (ix2 (⟨(b * 4096 + s) % 16384, Nat.mod_lt _ (by decide)⟩ : Fin 16384) l)
    + padded (gArr m c) (ix2 0 l))

/-- The sum over the first `n` positions. -/
def sumTo (c : Dev nD) (b : ℕ) (l : Fin 128) (n : ℕ) : EReal := ∑ s ∈ Finset.range n, gateAt m c b l s

/-- A chunk's sums, over its positions. -/
theorem chunk_at (c : Dev nD) (t : Fin cfg0.N) (r : Fin 512) (l : Fin 128) :
    k0_pay4 (iblk m c 0 t) (iblk m c 1 t) (ix2 r l)
      = (∑ q ∈ Finset.range (r.val + 1), gateAt m c (t.val / 8) l (t.val % 8 * 512 + q) : EReal) := by
  rw [← Fcum.sum_upto (fun q => gateAt m c (t.val / 8) l (t.val % 8 * 512 + q)) r.val r.isLt]
  refine (pay4_apply _ _ r l).trans (Finset.sum_congr rfl fun q _ => ?_)
  have ht := lt32 t
  have e : (⟨(t.val / 8 * 4096 + (t.val % 8 * 512 + q.val)) % 16384, Nat.mod_lt _ (by decide)⟩ : Fin 16384)
      = ⟨t.val * 512 + q.val, by omega⟩ :=
    Fin.ext (by show (t.val / 8 * 4096 + (t.val % 8 * 512 + q.val)) % 16384 = t.val * 512 + q.val; omega)
  unfold gateAt
  rw [e, blk0, blk1, V_main_arg0, V_v1]

/-- A chunk's sums added to the sum over the chunks before. -/
theorem chunk_add (c : Dev nD) (t : Fin cfg0.N) (r : Fin 512) (l : Fin 128) :
    (k0_pay4 (iblk m c 0 t) (iblk m c 1 t) (ix2 r l) + sumTo m c (t.val / 8) l (t.val % 8 * 512) : EReal)
      = sumTo m c (t.val / 8) l (t.val % 8 * 512 + r.val + 1) := by
  rw [chunk_at, add_comm]
  unfold sumTo
  rw [add_assoc]
  exact (Finset.sum_range_add _ _ _).symm

/-- After every point the carried row holds the sums over the batch entry's chunks met so far. -/
theorem carry_at (c : Dev nD) : ∀ (n : ℕ) (hn : n < cfg0.N) (l : Fin 128),
    ((outsAt0 m c n hn).2.2 (ix2 0 l) : EReal) = sumTo m c (n / 8) l ((n % 8 + 1) * 512) := by
  have first : ∀ (t : Fin cfg0.N) (h0 : t.val % 8 = 0) (l : Fin 128),
      ((outsAt0 m c t.val t.isLt).2.2 (ix2 0 l) : EReal) = sumTo m c (t.val / 8) l ((t.val % 8 + 1) * 512) := by
    intro t h0 l
    rw [carry_reset m c t h0, pay6_apply, pay3_apply]
    have e := chunk_add m c t 511 l
    rw [h0] at e
    rw [h0]
    exact e
  intro n
  induction n with
  | zero => exact fun hn l => first ⟨0, hn⟩ rfl l
  | succ n ih =>
    intro hn l
    by_cases h0 : (n + 1) % 8 = 0
    · exact first ⟨n + 1, hn⟩ h0 l
    · rw [carry_step m c n hn h0, pay6_apply, ih (by omega) l]
      have e := chunk_add m c ⟨n + 1, hn⟩ 511 l
      dsimp only at e
      rw [show (n + 1) / 8 = n / 8 by omega, show (n + 1) % 8 = n % 8 + 1 by omega] at e
      rw [show (n + 1) / 8 = n / 8 by omega, show (n + 1) % 8 = n % 8 + 1 by omega]
      refine e.trans (congrArg (sumTo m c (n / 8) l) ?_)
      show (n % 8 + 1) * 512 + 511 + 1 = (n % 8 + 1 + 1) * 512
      omega

/-- What a point leaves in the first output's block. -/
theorem cols_at (c : Dev nD) (t : Fin cfg0.N) (r l : Fin 512) :
    ((outsAt0 m c t.val t.isLt).1 (ix2 r l) : EReal)
      = sumTo m c (t.val / 8) (⟨l.val / 128, by omega⟩ : Fin 128) (t.val % 8 * 512 + r.val + 1) := by
  rw [← chunk_add]
  obtain ⟨n, hn⟩ := t
  by_cases h0 : n % 8 = 0
  · rw [cols_reset m c ⟨n, hn⟩ h0, cols_apply, pay3_apply]
    dsimp only
    rw [h0]
    rfl
  · obtain ⟨n, rfl⟩ : ∃ k, n = k + 1 := ⟨n - 1, by omega⟩
    dsimp only
    rw [cols_step m c n hn h0, cols_apply, carry_at]
    rw [show (n + 1) / 8 = n / 8 by omega, show (n + 1) % 8 = n % 8 + 1 by omega]

/-- What a point leaves in the second output's block. -/
theorem rows_at (c : Dev nD) (t : Fin cfg0.N) (i : Fin 32) (r : Fin 512) :
    ((outsAt0 m c t.val t.isLt).2.1 (ix3 (0 : Fin 1) i r) : EReal)
      = sumTo m c (t.val / 8) (⟨i.val / 8, by omega⟩ : Fin 128) (t.val % 8 * 512 + r.val + 1) := by
  rw [← chunk_add]
  obtain ⟨n, hn⟩ := t
  by_cases h0 : n % 8 = 0
  · rw [rows_reset m c ⟨n, hn⟩ h0, rows_apply, pay3_apply]
    dsimp only
    rw [h0]
    rfl
  · obtain ⟨n, rfl⟩ : ∃ k, n = k + 1 := ⟨n - 1, by omega⟩
    dsimp only
    rw [rows_step m c n hn h0, rows_apply, carry_at]
    rw [show (n + 1) / 8 = n / 8 by omega, show (n + 1) % 8 = n % 8 + 1 by omega]

/-! ## The result arrays -/

/-- A lane, by its number. -/
def lane (n : ℕ) : Fin 128 := ⟨n % 128, Nat.mod_lt _ (by decide)⟩

theorem lane_eq (n : ℕ) (h : n < 128) : lane n = ⟨n, h⟩ := Fin.ext (Nat.mod_eq_of_lt h)

theorem final_cols (c : Dev nD) (R : Fin 16384) (C : Fin 512) :
    (dats m 0 c).arrAt 2 cfg0.N (ix2 R C)
      = sumTo m c (R.val / 4096) (⟨C.val / 128, by omega⟩ : Fin 128) (R.val % 4096 + 1) := by
  have e : (dats m 0 c).arrAt 2 cfg0.N = fun j : S16384x512.Idx => sumTo m c ((j 0).val / 4096)
      (lane ((j 1).val / 128)) ((j 0).val % 4096 + 1) := by
    refine (dats m 0 c).arrAt_eq_of_covers 2 _ (by decide +kernel) fun t hf y => ?_
    obtain ⟨r, k, rfl⟩ : ∃ (a : Fin 512) (b : Fin 512), y = ix2 a b := ⟨y 0, y 1, eq_ix2 y⟩
    have ht := lt32 t
    have e0 : ((((cfg0.win 2).blk t).view.emb (ix2 r k)) 0).val = t.val * 512 + r.val := by
      blk_simp [idx t]
    have e1 : (((cfg0.win 2).blk t).view.emb (ix2 r k) 1).val = k.val := by
      blk_simp [idx t]
    rw [e0, e1, lane_eq (k.val / 128) (by omega), show (t.val * 512 + r.val) / 4096 = t.val / 8 by omega,
      show (t.val * 512 + r.val) % 4096 = t.val % 8 * 512 + r.val by omega]
    blk_simp
    rw [after0_2]
    exact cols_at m c t r k
  rw [e, ← lane_eq]
  rfl

theorem final_rows (c : Dev nD) (b : Fin 4) (i : Fin 32) (s : Fin 4096) :
    (dats m 0 c).arrAt 3 cfg0.N (ix3 b i s)
      = sumTo m c b.val (⟨i.val / 8, by omega⟩ : Fin 128) (s.val + 1) := by
  have e : (dats m 0 c).arrAt 3 cfg0.N = fun j : S4x32x4096.Idx => sumTo m c (j 0).val
      (lane ((j 1).val / 8)) ((j 2).val + 1) := by
    refine (dats m 0 c).arrAt_eq_of_covers 3 _ (by decide +kernel) fun t hf y => ?_
    obtain ⟨k, r, rfl⟩ : ∃ (k : Fin 32) (r : Fin 512), y = ix3 (0 : Fin 1) k r :=
      ⟨y 1, y 2, (eq_ix3 y).trans (congrArg (fun k => ix3 k (y 1) (y 2)) (Subsingleton.elim (α := Fin 1) _ _))⟩
    have ht := lt32 t
    have e0 : ((((cfg0.win 3).blk t).view.emb (ix3 (0 : Fin 1) k r)) 0).val = t.val / 8 := by
      blk_simp [idx t]
      rfl
    have e1 : (((cfg0.win 3).blk t).view.emb (ix3 (0 : Fin 1) k r) 1).val = k.val := by
      blk_simp [idx t]
    have e2 : ((((cfg0.win 3).blk t).view.emb (ix3 (0 : Fin 1) k r)) 2).val = t.val % 8 * 512 + r.val := by
      blk_simp [idx t]
    rw [e0, e1, e2, lane_eq (k.val / 8) (by omega)]
    blk_simp
    rw [after0_3]
    exact rows_at m c t k r
  rw [e, ← lane_eq]
  rfl

end Cert.FcumIdeal.Fold

end
-- ==== Proof.FcumRef.lean ====
/-
  What the reference of the forget gates' running sums computes: the logarithm of every gate, its running sums over
  the positions, and the two layouts of the results.
-/
module

public import proofs.«01_k».proof.Proof.Gen.FcumReferenceIdeal.Run
public import proofs.«01_k».proof.Proof.FcumMath
public import Idealize.ShloMosaic.Lib.Pointwise
public import Idealize.ShloMosaic.Lib.Tactic

@[expose] public section

set_option maxRecDepth 16384

noncomputable section

namespace Cert.FcumReferenceIdeal.Ref

open Idealize.ShloMosaic Idealize.ShloMosaic.TcCoe Idealize.SL.Sem
open Cert.FcumReferenceIdeal Cert.FcumReferenceIdeal.Gen

/-! ## Running sums -/

/-- A sum over window positions that ends at `t`, the positions before the array's start padded. -/
theorem sum_window (f : ℕ → EReal) (N t : ℕ) (ht : t ≤ N) :
    (∑ q ∈ Finset.range (N + 1), if N ≤ t + q then f (t + q - N) else 0) = ∑ i ∈ Finset.range (t + 1), f i := by
  obtain ⟨d, rfl⟩ : ∃ d, N = d + t := ⟨N - t, by omega⟩
  rw [add_assoc, Finset.sum_range_add]
  have e : (∑ q ∈ Finset.range d, if d + t ≤ t + q then f (t + q - (d + t)) else 0) = 0 :=
    Finset.sum_eq_zero fun q hq => by
      have hq : q < d := Finset.mem_range.1 hq
      rw [if_neg (by omega)]
  rw [e, zero_add]
  refine Finset.sum_congr rfl fun i hi => ?_
  rw [if_pos (by omega), show t + (d + i) - (d + t) = i by omega]

/-- A float window sum from zero, as the sum over the window's positions of the padded array's entries. -/
theorem window_sum {s t u : Shape} {φ : FTy} (window strides lo hi : Fin s.rank → ℕ) (x : FVec Ideal s φ) (init : FVec Ideal u φ)
    (h : s.ReduceWindows window strides lo hi t) (hu : 0 < u.numel) (h0 : init (Shape.Idx.first hu) = (0 : EReal)) (j : t.Idx) :
    (Host.reduceWindowAdd window strides lo hi x init h hu j : EReal)
      = ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else 0 : EReal) := by
  show Ideal.hostReduceWindowAdd window strides lo hi h x (init (Shape.Idx.first hu)) j = _
  unfold Ideal.hostReduceWindowAdd Host.reduceWindow
  dsimp only
  refine (Fcum.foldl_add _ _ _).trans ?_
  rw [h0, zero_add, ← Fin.sum_univ_def]
  refine Eq.trans ?_ (Equiv.sum_comp (⟨s.rank, window⟩ : Shape).rowMajor.symm (fun w : (⟨s.rank, window⟩ : Shape).Idx =>
    (if hin : ∀ a, lo a ≤ (j (a.cast h.1.symm)).val * strides a + (w a).val
        ∧ (j (a.cast h.1.symm)).val * strides a + (w a).val - lo a < s.size a
      then x (fun a => ⟨(j (a.cast h.1.symm)).val * strides a + (w a).val - lo a, (hin a).2⟩) else 0 : EReal)))
  exact Finset.sum_congr rfl fun n _ => dite_congr rfl (fun _ => rfl) fun _ => rfl

/-- The window positions along the middle axis, one to each position. -/
theorem window_bij (N : ℕ) : Function.Bijective
    (fun q : Fin N => (ix3 (0 : Fin 1) q (0 : Fin 1) : (⟨3, ![1, N, 1]⟩ : Shape).Idx)) :=
  ⟨fun p q e => congrFun e 1, fun w => ⟨w 1, by
    refine Eq.trans ?_ (eq_ix3 w).symm
    exact congrArg₂ (fun a b => ix3 a (w 1) b) (Subsingleton.elim (α := Fin 1) _ _) (Subsingleton.elim (α := Fin 1) _ _)⟩⟩

/-- The running sums along the middle axis, as printed, are sums up to a position. -/
theorem running (x : FVec Ideal S4x4096x4 .f32) (init : FVec Ideal S_ .f32) (h0 : init (Shape.Idx.first h_S_) = (0 : EReal))
    (b : Fin 4) (t : Fin 4096) (h : Fin 4) :
    (Host.reduceWindowAdd ![1, 4096, 1] ![1, 1, 1] ![0, 4095, 0] ![0, 0, 0] x init
      reduceWindows_S4x4096x4_S4x4096x4_w1s1p0_0_w4096s1p4095_0_w1s1p0_0 h_S_ : FVec Ideal S4x4096x4 .f32) (ix3 b t h)
      = (∑ i ∈ Finset.range (t.val + 1), x (ix3 b (⟨i % 4096, Nat.mod_lt _ (by decide)⟩ : Fin 4096) h) : EReal) := by
  rw [← sum_window (fun i => x (ix3 b (⟨i % 4096, Nat.mod_lt _ (by decide)⟩ : Fin 4096) h)) 4095 t.val (by omega)]
  rw [window_sum (h0 := h0)]
  rw [← Fin.sum_univ_eq_sum_range (fun q => if 4095 ≤ t.val + q then
    x (ix3 b (⟨(t.val + q - 4095) % 4096, Nat.mod_lt _ (by decide)⟩ : Fin 4096) h) else 0)]
  refine (Fintype.sum_bijective _ (window_bij 4096) _ _ fun q => ?_).symm
  have hq := q.isLt
  by_cases e : 4095 ≤ t.val + q.val
  · rw [if_pos e]
    refine Eq.trans ?_ (dif_pos fun a => ?_).symm
    · refine congrArg x (funext fun a => Fin.ext ?_)
      match a with
      | ⟨0, _⟩ => show b.val = b.val * 1 + 0 - 0; omega
      | ⟨1, _⟩ => show (t.val + q.val - 4095) % 4096 = t.val * 1 + q.val - 4095; omega
      | ⟨2, _⟩ => show h.val = h.val * 1 + 0 - 0; omega
    · match a with
      | ⟨0, _⟩ => show 0 ≤ b.val * 1 + 0 ∧ b.val * 1 + 0 - 0 < 4; omega
      | ⟨1, _⟩ => show 4095 ≤ t.val * 1 + q.val ∧ t.val * 1 + q.val - 4095 < 4096; omega
      | ⟨2, _⟩ => show 0 ≤ h.val * 1 + 0 ∧ h.val * 1 + 0 - 0 < 4; omega
  · rw [if_neg e]
    symm
    rw [dif_neg fun hin => e ?_]
    have h1 : 4095 ≤ t.val * 1 + q.val := (hin 1).1
    omega

/-! ## The gates -/

/-- The gates' logits, as printed. -/
def logits (z : FVec Ideal S16384x128 .f32) (g : FVec Ideal S4 .f32) : FVec Ideal S4x4096x4 .f32 :=
  addf (extractStridedSlice S4x4096x4 ![0, 0, 0] (shapeCast S4x4096x128 z shapeCasts_S16384x128_S4x4096x128 : FVec Ideal S4x4096x128 .f32)
      slices_S4x4096x128_S4x4096x4_0_0_0)
    (broadcastInDim S4x4096x4 ![0, 1, 2] bcast_S1x1x4_S4x4096x4_0_1_2 (broadcastInDim S1x1x4 ![2] bcast_S4_S1x1x4_2 g))

/-- Zeros, as printed. -/
def zeros : FVec Ideal S4x4096x4 .f32 := broadcastInDim S4x4096x4 ![] bcast_S_S4x4096x4 (constant S_ .f32 0x00000000#32)

/-- The logarithms of the gates' sigmoids, as printed. -/
def logs (y : FVec Ideal S4x4096x4 .f32) : FVec Ideal S4x4096x4 .f32 :=
  Host.negf (select (cmpf .une (subf (Host.negf y) zeros) (subf (Host.negf y) zeros)) (addf (Host.negf y) zeros)
    (addf (maximumf (Host.negf y) zeros) (Host.log1p (Host.exp (Host.negf (Host.absf (subf (Host.negf y) zeros)))))))

/-- The running sums, as printed. -/
def sums (x : FVec Ideal S4x4096x4 .f32) : FVec Ideal S4x4096x4 .f32 :=
  Host.reduceWindowAdd ![1, 4096, 1] ![1, 1, 1] ![0, 4095, 0] ![0, 0, 0] x
    (broadcastInDim S_ ![] bcast_S_S_ (constant S_ .f32 0x00000000#32))
    reduceWindows_S4x4096x4_S4x4096x4_w1s1p0_0_w4096s1p4095_0_w1s1p0_0 h_S_

/-- The first result's layout, as printed: each sum 128 times along its row. -/
def columns (x : FVec Ideal S4x4096x4 .f32) : FVec Ideal S16384x512 .f32 :=
  shapeCast S16384x512 (shapeCast S4x4096x512 (broadcastInDim S4x4096x4x128 ![0, 1, 2] bcast_S4x4096x4_S4x4096x4x128_0_1_2 x :
    FVec Ideal S4x4096x4x128 .f32) shapeCasts_S4x4096x4x128_S4x4096x512 : FVec Ideal S4x4096x512 .f32) shapeCasts_S4x4096x512_S16384x512

/-- The second result's layout, as printed: the positions along the rows, each row 8 times. -/
def lines (x : FVec Ideal S4x4096x4 .f32) : FVec Ideal S4x32x4096 .f32 :=
  shapeCast S4x32x4096 (broadcastInDim S4x4x8x4096 ![0, 1, 3] bcast_S4x4x4096_S4x4x8x4096_0_1_3
    (transpose S4x4x4096 [0, 2, 1] x transposes_S4x4096x4_S4x4x4096_0_2_1 : FVec Ideal S4x4x4096 .f32) : FVec Ideal S4x4x8x4096 .f32)
    shapeCasts_S4x4x8x4096_S4x32x4096

theorem logits_apply (z : FVec Ideal S16384x128 .f32) (g : FVec Ideal S4 .f32) (b : Fin 4) (t : Fin 4096) (h : Fin 4) :
    logits z g (ix3 b t h) = (z (ix2 (⟨b.val * 4096 + t.val, by omega⟩ : Fin 16384) (⟨h.val, by omega⟩ : Fin 128))
      + g (ix1 h) : EReal) := by
  pointwise [logits]

theorem logs_apply (y : FVec Ideal S4x4096x4 .f32) (b : Fin 4) (t : Fin 4096) (h : Fin 4) :
    logs y (ix3 b t h) = Fcum.logGate (y (ix3 b t h)) := by
  pointwise [logs, zeros, Fcum.logGate]
  rw [if_neg (not_not.2 rfl)]
  rfl

theorem sums_apply (x : FVec Ideal S4x4096x4 .f32) (b : Fin 4) (t : Fin 4096) (h : Fin 4) :
    sums x (ix3 b t h)
      = (∑ i ∈ Finset.range (t.val + 1), x (ix3 b (⟨i % 4096, Nat.mod_lt _ (by decide)⟩ : Fin 4096) h) : EReal) :=
  running x _ (by pointwise []) b t h

theorem columns_apply (x : FVec Ideal S4x4096x4 .f32) (R : Fin 16384) (C : Fin 512) :
    columns x (ix2 R C) = x (ix3 (⟨R.val / 4096, by omega⟩ : Fin 4) (⟨R.val % 4096, by omega⟩ : Fin 4096)
      (⟨C.val / 128, by omega⟩ : Fin 4)) := by
  pointwise [columns]

theorem lines_apply (x : FVec Ideal S4x4096x4 .f32) (b : Fin 4) (j : Fin 32) (t : Fin 4096) :
    lines x (ix3 b j t) = x (ix3 b t (⟨j.val / 8, by omega⟩ : Fin 4)) := by
  pointwise [lines]

/-! ## The results -/

/-- The running sum of head `h` in batch entry `b` over the first `n` positions. -/
def upto (z : FVec Ideal S16384x128 .f32) (g : FVec Ideal S4 .f32) (b h : Fin 4) (n : ℕ) : EReal :=
  ∑ i ∈ Finset.range n, Fcum.logGate (z (ix2 (⟨b.val * 4096 + i % 4096, by omega⟩ : Fin 16384) (⟨h.val, by omega⟩ : Fin 128))
    + g (ix1 h))

theorem sums_logs (z : FVec Ideal S16384x128 .f32) (g : FVec Ideal S4 .f32) (b : Fin 4) (t : Fin 4096) (h : Fin 4) :
    sums (logs (logits z g)) (ix3 b t h) = upto z g b h (t.val + 1) := by
  rw [sums_apply]
  simp only [logs_apply, logits_apply]
  rfl

/-- The first result at an index. -/
theorem column_apply (z : FVec Ideal S16384x128 .f32) (g : FVec Ideal S4 .f32) (R : Fin 16384) (C : Fin 512) :
    columns (sums (logs (logits z g))) (ix2 R C)
      = upto z g (⟨R.val / 4096, by omega⟩ : Fin 4) (⟨C.val / 128, by omega⟩ : Fin 4) (R.val % 4096 + 1) := by
  rw [columns_apply, sums_logs]

/-- The second result at an index. -/
theorem line_apply (z : FVec Ideal S16384x128 .f32) (g : FVec Ideal S4 .f32) (b : Fin 4) (j : Fin 32) (t : Fin 4096) :
    lines (sums (logs (logits z g))) (ix3 b j t) = upto z g b (⟨j.val / 8, by omega⟩ : Fin 4) (t.val + 1) := by
  rw [lines_apply, sums_logs]

/-- The reference's run, its results by the names above. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
          = columns (sums (logs (logits (m ((c.tc : Thread nD τ).loc main_arg0)) (m ((c.tc : Thread nD τ).loc main_arg1)))))
      ∧ r.2.mem ((c.tc : Thread nD τ).loc main_v12)
          = lines (sums (logs (logits (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans (by unfold columns sums logs zeros logits; rfl),
      (h c).2.1.trans (by unfold lines sums logs zeros logits; rfl), (h c).2.2.1, (h c).2.2.2⟩)
    (Cert.FcumReferenceIdeal.Value.run (F := Ideal) m ρ)

end Cert.FcumReferenceIdeal.Ref

end
-- ==== Proof.FcumClaim.lean ====
/-
  The claims of the forget gates' running sums: the frame of the reference, and that the kernel's arrays and the
  reference's arrays are the same functions of the arguments.
-/
module

public import proofs.«01_k».proof.Defs
public import proofs.«01_k».proof.Proof.Gen.FcumIdeal.Frame
public import proofs.«01_k».proof.Proof.FcumValue
public import proofs.«01_k».proof.Proof.FcumRef
public import Idealize.ShloMosaic.Lib.Claim

@[expose] public section

set_option maxRecDepth 16384

noncomputable section

namespace Cert.Proof

open Idealize.ShloMosaic Idealize.ShloMosaic.TcCoe Idealize.SL.Sem

/-- The sum that the kernel's chunks add up is the reference's running sum. -/
theorem sumTo_eq_upto (m : (ℓ : Loc Cert.FcumIdeal.nD Cert.FcumIdeal.τ Cert.FcumIdeal.sig) → Buf (Elt Ideal) ℓ)
    (c : Dev Cert.FcumIdeal.nD) (b h : Fin 4) (n : ℕ) (hn : n ≤ 4096) :
    Cert.FcumIdeal.Fold.sumTo m c b.val (⟨h.val, by omega⟩ : Fin 128) n
      = Cert.FcumReferenceIdeal.Ref.upto (Cert.FcumIdeal.Fold.zArr m c) (Cert.FcumIdeal.Fold.gArr m c) b h n := by
  refine Finset.sum_congr rfl fun s hs => ?_
  have hs : s < n := Finset.mem_range.1 hs
  unfold Cert.FcumIdeal.Fold.gateAt
  rw [Cert.FcumIdeal.Fold.padded_apply]
  have e : (⟨(b.val * 4096 + s) % 16384, Nat.mod_lt _ (by decide)⟩ : Fin 16384)
      = ⟨b.val * 4096 + s % 4096, by omega⟩ :=
    Fin.ext (by show (b.val * 4096 + s) % 16384 = b.val * 4096 + s % 4096; omega)
  rw [e]

/-- The reference of the running sums runs, leaves its arguments and uses no semaphore. -/
theorem fcum_reference_frame :
    quiescent_FcumReferenceIdeal (hFcumReferenceIdeal := Cert.FcumReferenceIdeal.Gen.facts) :=
  fun m ρ _ => (θ_run Cert.FcumReferenceIdeal.defs _ _).mono
    (fun r h => ⟨fun c => (h c).2.2, Idealize.ShloMosaic.sem_eq_zero_of_no_sems (by decide) r.2⟩)
    (Cert.FcumReferenceIdeal.Value.run (F := Ideal) m ρ)

/-- The kernel of the running sums and its reference end with the same two arrays. -/
theorem fcum_algebraic : algebraic_FcumIdeal_FcumReferenceIdeal (hFcumIdeal := Cert.FcumIdeal.Gen.facts)
    (hFcumReferenceIdeal := Cert.FcumReferenceIdeal.Gen.facts) := by
  pair_intro
  · run_from Cert.FcumIdeal.Value.run_blocks m g
  · refine (θ_run Cert.FcumReferenceIdeal.defs _ _).mono
      (fun r h c => ⟨(h c).1.trans ?_, (h c).2.1.trans ?_, (h c).2.2.1, (h c).2.2.2⟩)
      (Cert.FcumReferenceIdeal.Ref.run_named m' g')
    all_goals
      obtain ⟨h0, h1⟩ := hagree c
      rw [h0, h1]
      funext j
    · obtain ⟨r, l, rfl⟩ : ∃ a b, j = ix2 a b := ⟨j 0, j 1, eq_ix2 j⟩
      refine (Cert.FcumReferenceIdeal.Ref.column_apply _ _ r l).trans ?_
      refine (sumTo_eq_upto m c _ _ _ ?_).symm.trans (Cert.FcumIdeal.Fold.final_cols m c r l).symm
      omega
    · obtain ⟨b, i, s, rfl⟩ : ∃ a b d, j = ix3 a b d := ⟨j 0, j 1, j 2, eq_ix3 j⟩
      refine (Cert.FcumReferenceIdeal.Ref.line_apply _ _ b i s).trans ?_
      refine (sumTo_eq_upto m c _ _ _ ?_).symm.trans (Cert.FcumIdeal.Fold.final_rows m c b i s).symm
      have : s.val < 4096 := s.isLt
      omega

end Cert.Proof

end
-- ==== Proof.lean ====
/-
  Assembles the claims of this certificate from the modules that prove them.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.ReferenceIdeal
public import proofs.«01_k».proof.Proof.Gen.ReferenceIdeal.Run
public import proofs.«01_k».proof.Proof.Gen.InProjReferenceIdeal
public import proofs.«01_k».proof.Proof.Gen.InProjReferenceIdeal.Run
public import proofs.«01_k».proof.Proof.Gen.MergeReferenceIdeal
public import proofs.«01_k».proof.Proof.Gen.MergeReferenceIdeal.Run
public import proofs.«01_k».proof.Proof.Gen.MlpMid
public import proofs.«01_k».proof.Proof.Gen.MlpMid.Skeleton
public import proofs.«01_k».proof.Proof.Gen.MlpMid.Launch
public import proofs.«01_k».proof.Proof.Gen.MlpMid.Points
public import proofs.«01_k».proof.Proof.Gen.MlpMid.Frame
public import proofs.«01_k».proof.Proof.Gen.MlpMidIdeal
public import proofs.«01_k».proof.Proof.Gen.MlpMidIdeal.Skeleton
public import proofs.«01_k».proof.Proof.Gen.MlpMidIdeal.Launch
public import proofs.«01_k».proof.Proof.Gen.MlpMidIdeal.Points
public import proofs.«01_k».proof.Proof.Gen.MlpMidIdeal.Frame
public import proofs.«01_k».proof.Proof.Gen.MlpMidIdeal.Value
public import proofs.«01_k».proof.Proof.Gen.MlpMidReferenceIdeal
public import proofs.«01_k».proof.Proof.Gen.MlpMidReferenceIdeal.Run
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguIdeal.Value
public import proofs.«01_k».proof.Proof.Gen.SguReferenceIdeal
public import proofs.«01_k».proof.Proof.Gen.SguReferenceIdeal.Run
public import proofs.«01_k».proof.Proof.Gen.Fcum
public import proofs.«01_k».proof.Proof.Gen.Fcum.Skeleton
public import proofs.«01_k».proof.Proof.Gen.Fcum.Launch
public import proofs.«01_k».proof.Proof.Gen.Fcum.Points
public import proofs.«01_k».proof.Proof.Gen.Fcum.Frame
public import proofs.«01_k».proof.Proof.Gen.FcumIdeal
public import proofs.«01_k».proof.Proof.Gen.FcumIdeal.Skeleton
public import proofs.«01_k».proof.Proof.Gen.FcumIdeal.Launch
public import proofs.«01_k».proof.Proof.Gen.FcumIdeal.Points
public import proofs.«01_k».proof.Proof.Gen.FcumIdeal.Frame
public import proofs.«01_k».proof.Proof.Gen.FcumIdeal.Value
public import proofs.«01_k».proof.Proof.Gen.FcumReferenceIdeal
public import proofs.«01_k».proof.Proof.Gen.FcumReferenceIdeal.Run
public import proofs.«01_k».proof.Proof.Gen.Pre_gates_repeated
public import proofs.«01_k».proof.Proof.AttnClaim
public import proofs.«01_k».proof.Proof.MlpClaim
public import proofs.«01_k».proof.Proof.InProjClaim
public import proofs.«01_k».proof.Proof.MergeClaim
public import proofs.«01_k».proof.Proof.MlpMidClaim
public import proofs.«01_k».proof.Proof.SguClaim
public import proofs.«01_k».proof.Proof.FcumClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.InProj.Gen.facts, Cert.InProjIdeal.Gen.facts, Cert.InProjReferenceIdeal.Gen.facts,
    Cert.Merge.Gen.facts, Cert.MergeIdeal.Gen.facts, Cert.MergeReferenceIdeal.Gen.facts,
    Cert.MlpMid.Gen.facts, Cert.MlpMidIdeal.Gen.facts, Cert.MlpMidReferenceIdeal.Gen.facts,
    Cert.Sgu.Gen.facts, Cert.SguIdeal.Gen.facts, Cert.SguReferenceIdeal.Gen.facts,
    Cert.Fcum.Gen.facts, Cert.FcumIdeal.Gen.facts, Cert.FcumReferenceIdeal.Gen.facts,
    Cert.Pre_gates_repeated.Gen.facts,
    fun m ρ _ => Cert.Kernel.Gen.frame m ρ,
    fun m ρ _ => Cert.KernelIdeal.Gen.frame m ρ,
    fun m ρ _ => Cert.KernelIdeal.Gen.frame m ρ,
    attn_reference_frame,
    fun m ρ _ => attn_reference_frame m ρ trivial,
    fun m ρ _ => Cert.Mlp.Gen.frame m ρ,
    fun m ρ _ => Cert.MlpIdeal.Gen.frame m ρ,
    mlp_reference_frame,
    fun m ρ _ => Cert.InProj.Gen.frame m ρ,
    fun m ρ _ => Cert.InProjIdeal.Gen.frame m ρ,
    in_proj_reference_frame,
    fun m ρ _ => Cert.Merge.Gen.frame m ρ,
    fun m ρ _ => Cert.MergeIdeal.Gen.frame m ρ,
    merge_reference_frame,
    fun m ρ _ => Cert.MlpMid.Gen.frame m ρ,
    fun m ρ _ => Cert.MlpMidIdeal.Gen.frame m ρ,
    mlp_mid_reference_frame,
    fun m ρ _ => Cert.Sgu.Gen.frame m ρ,
    fun m ρ _ => Cert.SguIdeal.Gen.frame m ρ,
    sgu_reference_frame,
    fun m ρ _ => Cert.Fcum.Gen.frame m ρ,
    fun m ρ _ => Cert.FcumIdeal.Gen.frame m ρ,
    fcum_reference_frame,
    IdealRules.named_const.statement Cert.KernelIdeal.κ "neg" .f32 0xFF7F0000#32 ⊥ rfl,
    attn_algebraic,
    trivial,
    mlp_algebraic,
    trivial,
    in_proj_algebraic,
    trivial,
    merge_algebraic,
    trivial,
    mlp_mid_algebraic,
    trivial,
    sgu_algebraic,
    trivial,
    fcum_algebraic⟩

end Cert.Proof

end
